-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_label_first [hPre_label_first : Cert.Pre_label_first.Facts] (m : (ℓ : Loc Cert.KernelIdeal.nD Cert.KernelIdeal.τ Cert.KernelIdeal.sig) → Buf (Elt Ideal) ℓ) : Prop :=
  ∀ c : Dev Cert.KernelIdeal.nD,
    (Cert.Pre_label_first.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_first [hPre_label_first : Cert.Pre_label_first.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_first.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_label_first [hKernelIdeal : Cert.KernelIdeal.Facts] [hPre_label_first : Cert.Pre_label_first.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_label_first m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_first [hReferenceIdeal : Cert.ReferenceIdeal.Facts] [hPre_label_first : Cert.Pre_label_first.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_first m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "two_log2_e" .f32 0x4038AA3B#32 ((2 * (Real.log 2)⁻¹ : ℝ) : EReal)

def algebraic_KernelIdeal_ReferenceIdeal_pre_label_first [hKernelIdeal : Cert.KernelIdeal.Facts] [hReferenceIdeal : Cert.ReferenceIdeal.Facts] [hPre_label_first : Cert.Pre_label_first.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_label_first m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_first : Cert.Pre_label_first.Facts),
    quiescent_Kernel (hKernel := hKernel)
    ∧ quiescent_KernelIdeal (hKernelIdeal := hKernelIdeal)
    ∧ quiescent_KernelIdeal_pre_label_first (hKernelIdeal := hKernelIdeal) (hPre_label_first := hPre_label_first)
    ∧ quiescent_ReferenceIdeal (hReferenceIdeal := hReferenceIdeal)
    ∧ quiescent_ReferenceIdeal_pre_label_first (hReferenceIdeal := hReferenceIdeal) (hPre_label_first := hPre_label_first)
    ∧ preserves_Kernel_KernelIdeal
    ∧ algebraic_KernelIdeal_ReferenceIdeal_pre_label_first (hKernelIdeal := hKernelIdeal) (hReferenceIdeal := hReferenceIdeal) (hPre_label_first := hPre_label_first)
-- ==== Pre_label_first.lean ====
abbrev S100000x1000 : Shape := ⟨2, ![100000, 1000]⟩
abbrev S100000 : Shape := ⟨1, ![100000]⟩
abbrev S_ : Shape := ⟨0, ![]⟩
abbrev S100000x1 : Shape := ⟨2, ![100000, 1]⟩

class Facts : Prop where
  reducesTo_S100000x1000_S100000_d1 : S100000x1000.ReducesTo [1] S100000
  h_S_ : 0 < S_.numel
  bcast_S100000_S100000x1_0 : S100000.BroadcastsInDim S100000x1 (![0] : Fin 1 → Fin S100000x1.rank)
  bcast_S100000x1_S100000x1000_0_1 : S100000x1.BroadcastsInDim S100000x1000 (![0, 1] : Fin 2 → Fin S100000x1000.rank)
  reducesTo_S100000x1000_S_d0_1 : S100000x1000.ReducesTo [0, 1] S_

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S100000x1000 .f32) : IVec S100000 32 :=
  let v0 : IVec S100000x1000 32 := iotaInDim S100000x1000 32 1
  let cst : FVec F S_ .f32 := constant S_ .f32 0xFF800000#32
  let c : IVec S_ 32 := constantI S_ 32 0#32
  let v1_0 : FVec F S100000 .f32 := (fun x y u v j => (Host.argReduce reducer_argmax_f32_i32 x y u v reducesTo_S100000x1000_S100000_d1 h_S_ j).1) arg0 v0 cst c
  let v1_1 : IVec S100000 32 := (fun x y u v j => (Host.argReduce reducer_argmax_f32_i32 x y u v reducesTo_S100000x1000_S100000_d1 h_S_ j).2) arg0 v0 cst c
  v1_1

def fn {F : FTy → Type} [FloatOps F] (main_arg0 : FVec F S100000x1000 .f32) (main_arg1 : IVec S100000 32) : IVec S_ 1 :=
  let main_cst : FVec F S_ .f32 := constant S_ .f32 0xFF800000#32
  let main_v0 : FVec F S100000 .f32 := (fun x v => Host.reduce FloatOps.maximumf x v reducesTo_S100000x1000_S100000_d1 h_S_) main_arg0 main_cst
  let main_v1 : FVec F S100000x1 .f32 := broadcastInDim S100000x1 ![0] bcast_S100000_S100000x1_0 main_v0
  let main_v2 : IVec S100000 32 := fn_argmax (F := F) main_arg0
  let main_v3 : IVec S100000x1000 32 := iotaInDim S100000x1000 32 1
  let main_v4 : FVec F S100000x1000 .f32 := broadcastInDim S100000x1000 ![0, 1] bcast_S100000x1_S100000x1000_0_1 main_v1
  let main_v5 : IVec S100000x1000 1 := cmpf .olt main_arg0 main_v4
  let main_v6 : IVec S100000x1 32 := broadcastInDim S100000x1 ![0] bcast_S100000_S100000x1_0 main_arg1
  let main_v7 : IVec S100000x1000 32 := broadcastInDim S100000x1000 ![0, 1] bcast_S100000x1_S100000x1000_0_1 main_v6
  let main_v8 : IVec S100000x1000 1 := cmpi .ne main_v3 main_v7
  let main_v9 : IVec S100000x1000 1 := ori main_v5 main_v8
  let main_v10 : IVec S100000x1 32 := broadcastInDim S100000x1 ![0] bcast_S100000_S100000x1_0 main_v2
  let main_v11 : IVec S100000x1000 32 := broadcastInDim S100000x1000 ![0, 1] bcast_S100000x1_S100000x1000_0_1 main_v10
  let main_v12 : IVec S100000x1000 1 := cmpi .eq main_v3 main_v11
  let main_v13 : IVec S100000x1000 1 := ori main_v9 main_v12
  let main_c : IVec S_ 1 := constantI S_ 1 1#1
  let main_v14 : IVec S_ 1 := (fun x v => Host.reduce IntOp.andi x v reducesTo_S100000x1000_S_d0_1 h_S_) main_v13 main_c
  main_v14
-- ==== Kernel.lean ====
abbrev S100000x1000 : Shape := ⟨2, ![100000, 1000]⟩
abbrev S100000 : Shape := ⟨1, ![100000]⟩
abbrev S100000x1 : Shape := ⟨2, ![100000, 1]⟩
abbrev S_ : Shape := ⟨0, ![]⟩
abbrev S10 : Shape := ⟨1, ![10]⟩
abbrev S1 : Shape := ⟨1, ![1]⟩
abbrev S11 : Shape := ⟨1, ![11]⟩
abbrev S1x11 : Shape := ⟨2, ![1, 11]⟩
abbrev S3x10 : Shape := ⟨2, ![3, 10]⟩
abbrev S1x1 : Shape := ⟨2, ![1, 1]⟩
abbrev S2000x1 : Shape := ⟨2, ![2000, 1]⟩
abbrev S3x2000x1000 : Shape := ⟨3, ![3, 2000, 1000]⟩
abbrev S3 : Shape := ⟨1, ![3]⟩
abbrev S1x2000x1000 : Shape := ⟨3, ![1, 2000, 1000]⟩
abbrev S2000x1000 : Shape := ⟨2, ![2000, 1000]⟩
abbrev S2000 : Shape := ⟨1, ![2000]⟩
abbrev S1000x8 : Shape := ⟨2, ![1000, 8]⟩
abbrev S2000x8 : Shape := ⟨2, ![2000, 8]⟩
abbrev S1x1000 : Shape := ⟨2, ![1, 1000]⟩
abbrev S1x10 : Shape := ⟨2, ![1, 10]⟩
abbrev S2000x10 : Shape := ⟨2, ![2000, 10]⟩
abbrev S1x1x10 : Shape := ⟨3, ![1, 1, 10]⟩
abbrev S1x1x1 : Shape := ⟨3, ![1, 1, 1]⟩

abbrev nBuf : Space → Nat
  | .hbm => 30
  | .vmem => 6
  | .smem => 0
  | _ => 0

abbrev bufTy : (tb : Table) → Fin (tcTables nBuf tb) → BufTy
  | .hbm, ⟨0, _⟩ => ⟨S100000x1000, .f32⟩
  | .hbm, ⟨1, _⟩ => ⟨S100000, .i32⟩
  | .hbm, ⟨2, _⟩ => ⟨S100000x1, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S10, .f32⟩
  | .hbm, ⟨11, _⟩ => ⟨S_, .f32⟩
  | .hbm, ⟨12, _⟩ => ⟨S10, .f32⟩
  | .hbm, ⟨13, _⟩ => ⟨S10, .f32⟩
  | .hbm, ⟨14, _⟩ => ⟨S1, .f32⟩
  | .hbm, ⟨15, _⟩ => ⟨S_, .f32⟩
  | .hbm, ⟨16, _⟩ => ⟨S10, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S1, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S1, .f32⟩
  | .hbm, ⟨25, _⟩ => ⟨S11, .f32⟩
  | .hbm, ⟨26, _⟩ => ⟨S1x11, .f32⟩
  | .hbm, ⟨27, _⟩ => ⟨S3x10, .f32⟩
  | .hbm, ⟨28, _⟩ => ⟨S1x1, .f32⟩
  | .hbm, ⟨29, _⟩ => ⟨S1, .f32⟩
  | .local _ .vmem, ⟨0, _⟩ => ⟨S2000x1, .i32⟩
  | .local _ .vmem, ⟨1, _⟩ => ⟨S2000x1, .i32⟩
  | .local _ .vmem, ⟨2, _⟩ => ⟨S1x11, .f32⟩
  | .local _ .vmem, ⟨3, _⟩ => ⟨S3x10, .f32⟩
  | .local _ .vmem, ⟨4, _⟩ => ⟨S1x1, .f32⟩
  | .local _ .vmem, ⟨5, _⟩ => ⟨S3x2000x1000, .f32⟩
  | _, _ => ⟨S100000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_v2 : Ref sig .tc := ⟨.hbm, 26, rfl⟩
abbrev main_v3_0 : Ref sig .tc := ⟨.hbm, 27, rfl⟩
abbrev main_v3_1 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_37 : BitVec 32 := 0#32
  c0_i32_37
def k0_off1 (c0_i32_40 : BitVec 32) : Fin 1 → Nat :=
  let c3_i32_41 : BitVec 32 := 3#32
  let v84 : BitVec 32 := Scalar.remsi c0_i32_40 c3_i32_41
  ![v84.toNat]
def k0_off2 (c0_i32_38 : BitVec 32) : Fin 3 → Nat :=
  let c3_i32_39 : BitVec 32 := 3#32
  let v83 : BitVec 32 := Scalar.remsi c0_i32_38 c3_i32_39
  let c0_i32_42 : BitVec 32 := 0#32
  let c0_i32_43 : BitVec 32 := 0#32
  ![v83.toNat, 0, 0]
def k0_mult2 : BitVec 32 :=
  let c2000_i32_45 : BitVec 32 := 2000#32
  c2000_i32_45
def k0_mult3 : BitVec 32 :=
  let c4000_i32 : BitVec 32 := 4000#32
  c4000_i32
def k0_mult4 (i : grid0.Coords) : BitVec 32 :=
  let arg0 : BitVec 32 := BitVec.ofNat 32 (i 0).val
  let c2000_i32 : BitVec 32 := 2000#32
  let v3 : BitVec 32 := Scalar.muli arg0 c2000_i32
  v3
def k0_off3 (i : grid0.Coords) : Fin 1 → Nat :=
  let arg0 : BitVec 32 := BitVec.ofNat 32 (i 0).val
  let c3_i32_1 : BitVec 32 := 3#32
  let v6 : BitVec 32 := Scalar.remsi arg0 c3_i32_1
  ![v6.toNat]
def k0_off4 (i : grid0.Coords) : Fin 3 → Nat :=
  let arg0 : BitVec 32 := BitVec.ofNat 32 (i 0).val
  let c3_i32 : BitVec 32 := 3#32
  let v5 : BitVec 32 := Scalar.remsi arg0 c3_i32
  let c0_i32_2 : BitVec 32 := 0#32
  let c0_i32_3 : BitVec 32 := 0#32
  ![v5.toNat, 0, 0]
def k0_off5 (i : grid0.Coords) : Fin 2 → Nat :=
  let arg0 : BitVec 32 := BitVec.ofNat 32 (i 0).val
  let c2000_i32 : BitVec 32 := 2000#32
  let v3 : BitVec 32 := Scalar.muli arg0 c2000_i32
  let v4 : BitVec 32 := v3
  let c0_i32_4 : BitVec 32 := 0#32
  ![v4.toNat, 0]
def k0_off6 (i : grid0.Coords) : Fin 3 → Nat :=
  let arg0 : BitVec 32 := BitVec.ofNat 32 (i 0).val
  let c3_i32_5 : BitVec 32 := 3#32
  let v12 : BitVec 32 := Scalar.remsi arg0 c3_i32_5
  let v13 : Index := Scalar.indexCast v12
  let c0 : Index := 0#32
  let c0_6 : Index := 0#32
  ![v13.toNat, 0, 0]
def k0_cond2 (i : grid0.Coords) : BitVec 1 :=
  let arg0 : BitVec 32 := BitVec.ofNat 32 (i 0).val
  let c3_i32_10 : BitVec 32 := 3#32
  let v24 : BitVec 32 := Scalar.addi arg0 c3_i32_10
  let c50_i32 : BitVec 32 := 50#32
  let v25 : BitVec 1 := Scalar.cmpi .slt v24 c50_i32
  let v26 : BitVec 32 := Scalar.extui v25
  let c0_i32_11 : BitVec 32 := 0#32
  let v27 : BitVec 1 := Scalar.cmpi .ne v26 c0_i32_11
  v27

def k0_mult5 (i : grid0.Coords) : BitVec 32 :=
  let arg0 : BitVec 32 := BitVec.ofNat 32 (i 0).val
  let c3_i32_34 : BitVec 32 := 3#32
  let v80 : BitVec 32 := Scalar.addi arg0 c3_i32_34
  let c2000_i32_35 : BitVec 32 := 2000#32
  let v81 : BitVec 32 := Scalar.muli v80 c2000_i32_35
  v81
def k0_off7 (i : grid0.Coords) : Fin 1 → Nat :=
  let arg0 : BitVec 32 := BitVec.ofNat 32 (i 0).val
  let c3_i32_34 : BitVec 32 := 3#32
  let v80 : BitVec 32 := Scalar.addi arg0 c3_i32_34
  let c3_i32_37 : BitVec 32 := 3#32
  let v84 : BitVec 32 := Scalar.remsi v80 c3_i32_37
  ![v84.toNat]
def k0_off8 (i : grid0.Coords) : Fin 3 → Nat :=
  let arg0 : BitVec 32 := BitVec.ofNat 32 (i 0).val
  let c3_i32_34 : BitVec 32 := 3#32
  let v80 : BitVec 32 := Scalar.addi arg0 c3_i32_34
  let c3_i32_36 : BitVec 32 := 3#32
  let v83 : BitVec 32 := Scalar.remsi v80 c3_i32_36
  let c0_i32_38 : BitVec 32 := 0#32
  let c0_i32_39 : BitVec 32 := 0#32
  ![v83.toNat, 0, 0]
def k0_off9 (i : grid0.Coords) : Fin 2 → Nat :=
  let arg0 : BitVec 32 := BitVec.ofNat 32 (i 0).val
  let c3_i32_34 : BitVec 32 := 3#32
  let v80 : BitVec 32 := Scalar.addi arg0 c3_i32_34
  let c2000_i32_35 : BitVec 32 := 2000#32
  let v81 : BitVec 32 := Scalar.muli v80 c2000_i32_35
  let v82 : BitVec 32 := v81
  let c0_i32_40 : BitVec 32 := 0#32
  ![v82.toNat, 0]
def k0_cond3 (i : grid0.Coords) : BitVec 1 :=
  let arg0 : BitVec 32 := BitVec.ofNat 32 (i 0).val
  let c49_i32 : BitVec 32 := 49#32
  let v77 : BitVec 1 := Scalar.cmpi .eq arg0 c49_i32
  let v78 : BitVec 32 := Scalar.extui v77
  let c0_i32_33 : BitVec 32 := 0#32
  let v79 : BitVec 1 := Scalar.cmpi .ne v78 c0_i32_33
  v79

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "two_log2_e" => some ((2 * (Real.log 2)⁻¹ : ℝ) : EReal)
  | _ => none
-- ==== ReferenceIdeal.lean ====
abbrev S100000x1000 : Shape := ⟨2, ![100000, 1000]⟩
abbrev S100000 : Shape := ⟨1, ![100000]⟩
abbrev S_ : Shape := ⟨0, ![]⟩
abbrev S100000x1 : Shape := ⟨2, ![100000, 1]⟩
abbrev S10 : Shape := ⟨1, ![10]⟩
abbrev S1 : Shape := ⟨1, ![1]⟩
abbrev S11 : Shape := ⟨1, ![11]⟩

abbrev nBuf : Space → Nat
  | .hbm => 393
  | .vmem => 0
  | .smem => 0
  | _ => 0

abbrev hbmTy0_0 (i : Nat) : BufTy := match i % 128 with
  | 0 => ⟨S100000x1000, .f32⟩
  | 1 => ⟨S100000, .i32⟩
  | 2 => ⟨S_, .f32⟩
  | 3 => ⟨S100000x1000, .f32⟩
  | 4 => ⟨S100000x1000, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x1000, .f32⟩
  | 12 => ⟨S100000x1000, .f32⟩
  | 13 => ⟨S100000x1000, .f32⟩
  | 14 => ⟨S_, .f32⟩
  | 15 => ⟨S100000, .f32⟩
  | 16 => ⟨S100000x1, .f32⟩
  | 17 => ⟨S100000x1000, .f32⟩
  | 18 => ⟨S100000x1000, .f32⟩
  | 19 => ⟨S_, .f32⟩
  | 20 => ⟨S100000, .f32⟩
  | 21 => ⟨S100000x1000, .i32⟩
  | 22 => ⟨S_, .f32⟩
  | 23 => ⟨S_, .i32⟩
  | 24 => ⟨S100000, .f32⟩
  | 25 => ⟨S100000, .i32⟩
  | 26 => ⟨S100000, .i1⟩
  | 27 => ⟨S100000, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S10, .f32⟩
  | 36 => ⟨S_, .f32⟩
  | 37 => ⟨S10, .f32⟩
  | 38 => ⟨S10, .f32⟩
  | 39 => ⟨S1, .f32⟩
  | 40 => ⟨S_, .f32⟩
  | 41 => ⟨S10, .f32⟩
  | 42 => ⟨S10, .f32⟩
  | 43 => ⟨S10, .f32⟩
  | 44 => ⟨S10, .f32⟩
  | 45 => ⟨S1, .f32⟩
  | 46 => ⟨S10, .f32⟩
  | 47 => ⟨S10, .f32⟩
  | 48 => ⟨S10, .f32⟩
  | 49 => ⟨S1, .f32⟩
  | 50 => ⟨S11, .f32⟩
  | 51 => ⟨S_, .f32⟩
  | 52 => ⟨S1, .f32⟩
  | 53 => ⟨S1, .f32⟩
  | 54 => ⟨S_, .f32⟩
  | 55 => ⟨S1, .f32⟩
  | 56 => ⟨S_, .f32⟩
  | 57 => ⟨S100000, .f32⟩
  | 58 => ⟨S100000, .i1⟩
  | 59 => ⟨S100000, .f32⟩
  | 60 => ⟨S100000, .i1⟩
  | 61 => ⟨S100000, .i1⟩
  | 62 => ⟨S100000, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S100000, .f32⟩
  | 70 => ⟨S_, .f32⟩
  | 71 => ⟨S_, .f32⟩
  | 72 => ⟨S_, .f32⟩
  | 73 => ⟨S100000, .f32⟩
  | 74 => ⟨S_, .f32⟩
  | 75 => ⟨S_, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1, .f32⟩
  | 86 => ⟨S1, .f32⟩
  | 87 => ⟨S1, .f32⟩
  | 88 => ⟨S_, .f32⟩
  | 89 => ⟨S1, .f32⟩
  | 90 => ⟨S_, .f32⟩
  | 91 => ⟨S100000, .f32⟩
  | 92 => ⟨S100000, .i1⟩
  | 93 => ⟨S100000, .f32⟩
  | 94 => ⟨S100000, .i1⟩
  | 95 => ⟨S100000, .i1⟩
  | 96 => ⟨S100000, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S100000, .f32⟩
  | 104 => ⟨S_, .f32⟩
  | 105 => ⟨S_, .f32⟩
  | 106 => ⟨S_, .f32⟩
  | 107 => ⟨S100000, .f32⟩
  | 108 => ⟨S_, .f32⟩
  | 109 => ⟨S_, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S1, .f32⟩
  | 120 => ⟨S1, .f32⟩
  | 121 => ⟨S1, .f32⟩
  | 122 => ⟨S_, .f32⟩
  | 123 => ⟨S1, .f32⟩
  | 124 => ⟨S_, .f32⟩
  | 125 => ⟨S100000, .f32⟩
  | 126 => ⟨S100000, .i1⟩
  | 127 => ⟨S100000, .f32⟩
  | _ => ⟨S100000x1000, .f32⟩

abbrev hbmTy0_1 (i : Nat) : BufTy := match i % 128 with
  | 0 => ⟨S100000, .i1⟩
  | 1 => ⟨S100000, .i1⟩
  | 2 => ⟨S100000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S100000, .f32⟩
  | 10 => ⟨S_, .f32⟩
  | 11 => ⟨S_, .f32⟩
  | 12 => ⟨S_, .f32⟩
  | 13 => ⟨S100000, .f32⟩
  | 14 => ⟨S_, .f32⟩
  | 15 => ⟨S_, .f32⟩
  | 16 => ⟨S_, .f32⟩
  | 17 => ⟨S_, .f32⟩
  | 18 => ⟨S_, .i1⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .f32⟩
  | 28 => ⟨S_, .f32⟩
  | 29 => ⟨S1, .f32⟩
  | 30 => ⟨S_, .f32⟩
  | 31 => ⟨S100000, .f32⟩
  | 32 => ⟨S100000, .i1⟩
  | 33 => ⟨S100000, .f32⟩
  | 34 => ⟨S100000, .i1⟩
  | 35 => ⟨S100000, .i1⟩
  | 36 => ⟨S100000, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S100000, .f32⟩
  | 44 => ⟨S_, .f32⟩
  | 45 => ⟨S_, .f32⟩
  | 46 => ⟨S_, .f32⟩
  | 47 => ⟨S100000, .f32⟩
  | 48 => ⟨S_, .f32⟩
  | 49 => ⟨S_, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S1, .f32⟩
  | 60 => ⟨S1, .f32⟩
  | 61 => ⟨S1, .f32⟩
  | 62 => ⟨S_, .f32⟩
  | 63 => ⟨S1, .f32⟩
  | 64 => ⟨S_, .f32⟩
  | 65 => ⟨S100000, .f32⟩
  | 66 => ⟨S100000, .i1⟩
  | 67 => ⟨S100000, .f32⟩
  | 68 => ⟨S100000, .i1⟩
  | 69 => ⟨S100000, .i1⟩
  | 70 => ⟨S100000, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S100000, .f32⟩
  | 78 => ⟨S_, .f32⟩
  | 79 => ⟨S_, .f32⟩
  | 80 => ⟨S_, .f32⟩
  | 81 => ⟨S100000, .f32⟩
  | 82 => ⟨S_, .f32⟩
  | 83 => ⟨S_, .f32⟩
  | 84 => ⟨S_, .f32⟩
  | 85 => ⟨S_, .f32⟩
  | 86 => ⟨S_, .i1⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S1, .f32⟩
  | 94 => ⟨S1, .f32⟩
  | 95 => ⟨S1, .f32⟩
  | 96 => ⟨S_, .f32⟩
  | 97 => ⟨S1, .f32⟩
  | 98 => ⟨S_, .f32⟩
  | 99 => ⟨S100000, .f32⟩
  | 100 => ⟨S100000, .i1⟩
  | 101 => ⟨S100000, .f32⟩
  | 102 => ⟨S100000, .i1⟩
  | 103 => ⟨S100000, .i1⟩
  | 104 => ⟨S100000, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S100000, .f32⟩
  | 112 => ⟨S_, .f32⟩
  | 113 => ⟨S_, .f32⟩
  | 114 => ⟨S_, .f32⟩
  | 115 => ⟨S100000, .f32⟩
  | 116 => ⟨S_, .f32⟩
  | 117 => ⟨S_, .f32⟩
  | 118 => ⟨S_, .f32⟩
  | 119 => ⟨S_, .f32⟩
  | 120 => ⟨S_, .i1⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S1, .f32⟩
  | _ => ⟨S100000x1000, .f32⟩

abbrev hbmTy0_2 (i : Nat) : BufTy := match i % 128 with
  | 0 => ⟨S1, .f32⟩
  | 1 => ⟨S1, .f32⟩
  | 2 => ⟨S_, .f32⟩
  | 3 => ⟨S1, .f32⟩
  | 4 => ⟨S_, .f32⟩
  | 5 => ⟨S100000, .f32⟩
  | 6 => ⟨S100000, .i1⟩
  | 7 => ⟨S100000, .f32⟩
  | 8 => ⟨S100000, .i1⟩
  | 9 => ⟨S100000, .i1⟩
  | 10 => ⟨S100000, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S100000, .f32⟩
  | 18 => ⟨S_, .f32⟩
  | 19 => ⟨S_, .f32⟩
  | 20 => ⟨S_, .f32⟩
  | 21 => ⟨S100000, .f32⟩
  | 22 => ⟨S_, .f32⟩
  | 23 => ⟨S_, .f32⟩
  | 24 => ⟨S_, .f32⟩
  | 25 => ⟨S_, .f32⟩
  | 26 => ⟨S_, .i1⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S1, .f32⟩
  | 34 => ⟨S1, .f32⟩
  | 35 => ⟨S1, .f32⟩
  | 36 => ⟨S_, .f32⟩
  | 37 => ⟨S1, .f32⟩
  | 38 => ⟨S_, .f32⟩
  | 39 => ⟨S100000, .f32⟩
  | 40 => ⟨S100000, .i1⟩
  | 41 => ⟨S100000, .f32⟩
  | 42 => ⟨S100000, .i1⟩
  | 43 => ⟨S100000, .i1⟩
  | 44 => ⟨S100000, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S100000, .f32⟩
  | 52 => ⟨S_, .f32⟩
  | 53 => ⟨S_, .f32⟩
  | 54 => ⟨S_, .f32⟩
  | 55 => ⟨S100000, .f32⟩
  | 56 => ⟨S_, .f32⟩
  | 57 => ⟨S_, .f32⟩
  | 58 => ⟨S_, .f32⟩
  | 59 => ⟨S_, .f32⟩
  | 60 => ⟨S_, .i1⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S1, .f32⟩
  | 68 => ⟨S1, .f32⟩
  | 69 => ⟨S1, .f32⟩
  | 70 => ⟨S_, .f32⟩
  | 71 => ⟨S1, .f32⟩
  | 72 => ⟨S_, .f32⟩
  | 73 => ⟨S100000, .f32⟩
  | 74 => ⟨S100000, .i1⟩
  | 75 => ⟨S100000, .f32⟩
  | 76 => ⟨S100000, .i1⟩
  | 77 => ⟨S100000, .i1⟩
  | 78 => ⟨S100000, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S100000, .f32⟩
  | 86 => ⟨S_, .f32⟩
  | 87 => ⟨S_, .f32⟩
  | 88 => ⟨S_, .f32⟩
  | 89 => ⟨S100000, .f32⟩
  | 90 => ⟨S_, .f32⟩
  | 91 => ⟨S_, .f32⟩
  | 92 => ⟨S_, .f32⟩
  | 93 => ⟨S_, .f32⟩
  | 94 => ⟨S_, .i1⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1, .f32⟩
  | 102 => ⟨S1, .f32⟩
  | 103 => ⟨S1, .f32⟩
  | 104 => ⟨S_, .f32⟩
  | 105 => ⟨S1, .f32⟩
  | 106 => ⟨S_, .f32⟩
  | 107 => ⟨S100000, .f32⟩
  | 108 => ⟨S100000, .i1⟩
  | 109 => ⟨S100000, .f32⟩
  | 110 => ⟨S100000, .i1⟩
  | 111 => ⟨S100000, .i1⟩
  | 112 => ⟨S100000, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S100000, .f32⟩
  | 120 => ⟨S_, .f32⟩
  | 121 => ⟨S_, .f32⟩
  | 122 => ⟨S_, .f32⟩
  | 123 => ⟨S100000, .f32⟩
  | 124 => ⟨S_, .f32⟩
  | 125 => ⟨S_, .f32⟩
  | 126 => ⟨S_, .f32⟩
  | 127 => ⟨S_, .f32⟩
  | _ => ⟨S100000x1000, .f32⟩

abbrev hbmTy0_3 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S1, .f32⟩
  | 8 => ⟨S1, .f32⟩
  | _ => ⟨S100000x1000, .f32⟩

abbrev hbmTy (i : Nat) : BufTy := match i / 128 with
  | 0 => hbmTy0_0 i
  | 1 => hbmTy0_1 i
  | 2 => hbmTy0_2 i
  | 3 => hbmTy0_3 i
  | _ => ⟨S100000x1000, .f32⟩

abbrev bufTy : (tb : Table) → Fin (tcTables nBuf tb) → BufTy
  | .hbm, ⟨i, _⟩ => hbmTy i
  | _, _ => ⟨S100000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_cst : Ref sig .tc := ⟨.hbm, 33, rfl⟩
abbrev main_call1_v3 : Ref sig .tc := ⟨.hbm, 34, rfl⟩
abbrev main_call1_v4 : Ref sig .tc := ⟨.hbm, 35, rfl⟩
abbrev main_call1_cst_0 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_cst_1 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_v15 : Ref sig .tc := ⟨.hbm, 48, rfl⟩
abbrev main_call1_v16 : Ref sig .tc := ⟨.hbm, 49, rfl⟩
abbrev main_v17 : Ref sig .tc := ⟨.hbm, 50, rfl⟩
abbrev main_cst_6 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_7 : Ref sig .tc := ⟨.hbm, 63, rfl⟩
abbrev main_v29 : Ref sig .tc := ⟨.hbm, 64, rfl⟩
abbrev main_cst_8 : Ref sig .tc := ⟨.hbm, 65, rfl⟩
abbrev main_v30 : Ref sig .tc := ⟨.hbm, 66, rfl⟩
abbrev main_cst_9 : Ref sig .tc := ⟨.hbm, 67, rfl⟩
abbrev main_v31 : Ref sig .tc := ⟨.hbm, 68, rfl⟩
abbrev main_v32 : Ref sig .tc := ⟨.hbm, 69, rfl⟩
abbrev main_cst_10 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_11 : Ref sig .tc := ⟨.hbm, 74, rfl⟩
abbrev main_v36 : Ref sig .tc := ⟨.hbm, 75, rfl⟩
abbrev main_v37 : Ref sig .tc := ⟨.hbm, 76, rfl⟩
abbrev main_cst_12 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_13 : Ref sig .tc := ⟨.hbm, 82, rfl⟩
abbrev main_call2_v0 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_cst_14 : Ref sig .tc := ⟨.hbm, 97, rfl⟩
abbrev main_v55 : Ref sig .tc := ⟨.hbm, 98, rfl⟩
abbrev main_cst_15 : Ref sig .tc := ⟨.hbm, 99, rfl⟩
abbrev main_v56 : Ref sig .tc := ⟨.hbm, 100, rfl⟩
abbrev main_cst_16 : Ref sig .tc := ⟨.hbm, 101, rfl⟩
abbrev main_v57 : Ref sig .tc := ⟨.hbm, 102, rfl⟩
abbrev main_v58 : Ref sig .tc := ⟨.hbm, 103, rfl⟩
abbrev main_cst_17 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_18 : Ref sig .tc := ⟨.hbm, 108, rfl⟩
abbrev main_v62 : Ref sig .tc := ⟨.hbm, 109, rfl⟩
abbrev main_v63 : Ref sig .tc := ⟨.hbm, 110, rfl⟩
abbrev main_cst_19 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_20 : Ref sig .tc := ⟨.hbm, 116, rfl⟩
abbrev main_call3_v0 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_21 : Ref sig .tc := ⟨.hbm, 131, rfl⟩
abbrev main_v81 : Ref sig .tc := ⟨.hbm, 132, rfl⟩
abbrev main_cst_22 : Ref sig .tc := ⟨.hbm, 133, rfl⟩
abbrev main_v82 : Ref sig .tc := ⟨.hbm, 134, rfl⟩
abbrev main_cst_23 : Ref sig .tc := ⟨.hbm, 135, rfl⟩
abbrev main_v83 : Ref sig .tc := ⟨.hbm, 136, rfl⟩
abbrev main_v84 : Ref sig .tc := ⟨.hbm, 137, rfl⟩
abbrev main_cst_24 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_cst_25 : Ref sig .tc := ⟨.hbm, 142, rfl⟩
abbrev main_v88 : Ref sig .tc := ⟨.hbm, 143, rfl⟩
abbrev main_v89 : Ref sig .tc := ⟨.hbm, 144, rfl⟩
abbrev main_cst_26 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_27 : Ref sig .tc := ⟨.hbm, 150, rfl⟩
abbrev main_call4_v0 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_cst_28 : Ref sig .tc := ⟨.hbm, 165, rfl⟩
abbrev main_v107 : Ref sig .tc := ⟨.hbm, 166, rfl⟩
abbrev main_cst_29 : Ref sig .tc := ⟨.hbm, 167, rfl⟩
abbrev main_v108 : Ref sig .tc := ⟨.hbm, 168, rfl⟩
abbrev main_cst_30 : Ref sig .tc := ⟨.hbm, 169, rfl⟩
abbrev main_v109 : Ref sig .tc := ⟨.hbm, 170, rfl⟩
abbrev main_v110 : Ref sig .tc := ⟨.hbm, 171, rfl⟩
abbrev main_cst_31 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_32 : Ref sig .tc := ⟨.hbm, 176, rfl⟩
abbrev main_v114 : Ref sig .tc := ⟨.hbm, 177, rfl⟩
abbrev main_v115 : Ref sig .tc := ⟨.hbm, 178, rfl⟩
abbrev main_cst_33 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_34 : Ref sig .tc := ⟨.hbm, 184, rfl⟩
abbrev main_call5_v0 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_cst_35 : Ref sig .tc := ⟨.hbm, 199, rfl⟩
abbrev main_v133 : Ref sig .tc := ⟨.hbm, 200, rfl⟩
abbrev main_cst_36 : Ref sig .tc := ⟨.hbm, 201, rfl⟩
abbrev main_v134 : Ref sig .tc := ⟨.hbm, 202, rfl⟩
abbrev main_cst_37 : Ref sig .tc := ⟨.hbm, 203, rfl⟩
abbrev main_v135 : Ref sig .tc := ⟨.hbm, 204, rfl⟩
abbrev main_v136 : Ref sig .tc := ⟨.hbm, 205, rfl⟩
abbrev main_cst_38 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_39 : Ref sig .tc := ⟨.hbm, 210, rfl⟩
abbrev main_v140 : Ref sig .tc := ⟨.hbm, 211, rfl⟩
abbrev main_v141 : Ref sig .tc := ⟨.hbm, 212, rfl⟩
abbrev main_cst_40 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_cst_41 : Ref sig .tc := ⟨.hbm, 218, rfl⟩
abbrev main_call6_v0 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_cst_42 : Ref sig .tc := ⟨.hbm, 233, rfl⟩
abbrev main_v159 : Ref sig .tc := ⟨.hbm, 234, rfl⟩
abbrev main_cst_43 : Ref sig .tc := ⟨.hbm, 235, rfl⟩
abbrev main_v160 : Ref sig .tc := ⟨.hbm, 236, rfl⟩
abbrev main_cst_44 : Ref sig .tc := ⟨.hbm, 237, rfl⟩
abbrev main_v161 : Ref sig .tc := ⟨.hbm, 238, rfl⟩
abbrev main_v162 : Ref sig .tc := ⟨.hbm, 239, rfl⟩
abbrev main_cst_45 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_cst_46 : Ref sig .tc := ⟨.hbm, 244, rfl⟩
abbrev main_v166 : Ref sig .tc := ⟨.hbm, 245, rfl⟩
abbrev main_v167 : Ref sig .tc := ⟨.hbm, 246, rfl⟩
abbrev main_cst_47 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_cst_48 : Ref sig .tc := ⟨.hbm, 252, rfl⟩
abbrev main_call7_v0 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_cst_49 : Ref sig .tc := ⟨.hbm, 267, rfl⟩
abbrev main_v185 : Ref sig .tc := ⟨.hbm, 268, rfl⟩
abbrev main_cst_50 : Ref sig .tc := ⟨.hbm, 269, rfl⟩
abbrev main_v186 : Ref sig .tc := ⟨.hbm, 270, rfl⟩
abbrev main_cst_51 : Ref sig .tc := ⟨.hbm, 271, rfl⟩
abbrev main_v187 : Ref sig .tc := ⟨.hbm, 272, rfl⟩
abbrev main_v188 : Ref sig .tc := ⟨.hbm, 273, rfl⟩
abbrev main_cst_52 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_cst_53 : Ref sig .tc := ⟨.hbm, 278, rfl⟩
abbrev main_v192 : Ref sig .tc := ⟨.hbm, 279, rfl⟩
abbrev main_v193 : Ref sig .tc := ⟨.hbm, 280, rfl⟩
abbrev main_cst_54 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_cst_55 : Ref sig .tc := ⟨.hbm, 286, rfl⟩
abbrev main_call8_v0 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_cst_56 : Ref sig .tc := ⟨.hbm, 301, rfl⟩
abbrev main_v211 : Ref sig .tc := ⟨.hbm, 302, rfl⟩
abbrev main_cst_57 : Ref sig .tc := ⟨.hbm, 303, rfl⟩
abbrev main_v212 : Ref sig .tc := ⟨.hbm, 304, rfl⟩
abbrev main_cst_58 : Ref sig .tc := ⟨.hbm, 305, rfl⟩
abbrev main_v213 : Ref sig .tc := ⟨.hbm, 306, rfl⟩
abbrev main_v214 : Ref sig .tc := ⟨.hbm, 307, rfl⟩
abbrev main_cst_59 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_cst_60 : Ref sig .tc := ⟨.hbm, 312, rfl⟩
abbrev main_v218 : Ref sig .tc := ⟨.hbm, 313, rfl⟩
abbrev main_v219 : Ref sig .tc := ⟨.hbm, 314, rfl⟩
abbrev main_cst_61 : Ref sig .tc := ⟨.hbm, 315, rfl⟩
abbrev main_v220 : Ref sig .tc := ⟨.hbm, 316, rfl⟩
abbrev main_v221 : Ref sig .tc := ⟨.hbm, 317, rfl⟩
abbrev main_v222 : Ref sig .tc := ⟨.hbm, 318, rfl⟩
abbrev main_v223 : Ref sig .tc := ⟨.hbm, 319, rfl⟩
abbrev main_cst_62 : Ref sig .tc := ⟨.hbm, 320, rfl⟩
abbrev main_call9_v0 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_cst_63 : Ref sig .tc := ⟨.hbm, 335, rfl⟩
abbrev main_v237 : Ref sig .tc := ⟨.hbm, 336, rfl⟩
abbrev main_cst_64 : Ref sig .tc := ⟨.hbm, 337, rfl⟩
abbrev main_v238 : Ref sig .tc := ⟨.hbm, 338, rfl⟩
abbrev main_cst_65 : Ref sig .tc := ⟨.hbm, 339, rfl⟩
abbrev main_v239 : Ref sig .tc := ⟨.hbm, 340, rfl⟩
abbrev main_v240 : Ref sig .tc := ⟨.hbm, 341, rfl⟩
abbrev main_cst_66 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_cst_67 : Ref sig .tc := ⟨.hbm, 346, rfl⟩
abbrev main_v244 : Ref sig .tc := ⟨.hbm, 347, rfl⟩
abbrev main_v245 : Ref sig .tc := ⟨.hbm, 348, rfl⟩
abbrev main_cst_68 : Ref sig .tc := ⟨.hbm, 349, rfl⟩
abbrev main_v246 : Ref sig .tc := ⟨.hbm, 350, rfl⟩
abbrev main_v247 : Ref sig .tc := ⟨.hbm, 351, rfl⟩
abbrev main_v248 : Ref sig .tc := ⟨.hbm, 352, rfl⟩
abbrev main_v249 : Ref sig .tc := ⟨.hbm, 353, rfl⟩
abbrev main_cst_69 : Ref sig .tc := ⟨.hbm, 354, rfl⟩
abbrev main_call10_v0 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_cst_70 : Ref sig .tc := ⟨.hbm, 369, rfl⟩
abbrev main_v263 : Ref sig .tc := ⟨.hbm, 370, rfl⟩
abbrev main_cst_71 : Ref sig .tc := ⟨.hbm, 371, rfl⟩
abbrev main_v264 : Ref sig .tc := ⟨.hbm, 372, rfl⟩
abbrev main_cst_72 : Ref sig .tc := ⟨.hbm, 373, rfl⟩
abbrev main_v265 : Ref sig .tc := ⟨.hbm, 374, rfl⟩
abbrev main_v266 : Ref sig .tc := ⟨.hbm, 375, rfl⟩
abbrev main_cst_73 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_cst_74 : Ref sig .tc := ⟨.hbm, 380, rfl⟩
abbrev main_v270 : Ref sig .tc := ⟨.hbm, 381, rfl⟩
abbrev main_v271 : Ref sig .tc := ⟨.hbm, 382, rfl⟩
abbrev main_cst_75 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_cst_76 : Ref sig .tc := ⟨.hbm, 388, rfl⟩
abbrev main_call11_v0 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩

abbrev nD : Nat := 1
abbrev τ : Topo := Topo.v7x

variable {F : FTy → Type} [FloatOps F]
-- ==== Proof.Ideal.Ring.lean ====
/-
  The kernel streams the logits through three slots of its own. Slot `s` takes blocks `s`, `s + 3`, `s + 6`, … one
  after the other: block `t` is waited for at grid point `t`, read, and block `t + 3` is then started into the same
  slot. This module names the slots, the blocks and the semaphore cells, and states what the kernel holds of the three
  slots between two grid points (`ring`). Each slot keeps a read share of the logits for itself, so a transfer borrows
  from its own slot's share and the three slots never meet.
-/
module

public import proofs.«01_k».proof.Proof.Gen.KernelIdeal.Frame
public import Idealize.ShloMosaic.Lib.Ring

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## Slots, blocks and cells -/

/-- There is a grid point. -/
instance : NeZero grid0.N := ⟨by rw [N_0]; decide⟩

/-- Slot `s` lies inside the scratch buffer. -/
theorem slot_inb (s : Fin 3) : ∀ a, (![s.val, 0, 0] : Fin 3 → Nat) a + S1x2000x1000.size a ≤ S3x2000x1000.size a := by
  have := s.isLt; intro a; fin_cases a <;> simp <;> omega
/-- Block `b` of 2000 rows lies inside the logits. -/
theorem block_inb (b : Fin 50) : ∀ a, (![2000 * b.val, 0] : Fin 2 → Nat) a + S2000x1000.size a ≤ S100000x1000.size a := by
  have := b.isLt; intro a; fin_cases a <;> simp <;> omega
/-- Cell `s` lies inside the semaphore array. -/
theorem cell_inb (s : Fin 3) : ∀ a, (![s.val] : Fin 1 → Nat) a + S1.size a ≤ S3.size a := by
  have := s.isLt; intro a; fin_cases a <;> simp <;> omega

/-- The scratch buffer of the three slots. -/
abbrev scratch : Memref sig .tc .vmem S3x2000x1000 .f32 := Memref.whole cc0_scratch0
/-- The logits, where they lie in HBM. -/
abbrev logits : Memref sig .tc .hbm S100000x1000 .f32 := Memref.whole main_arg0

/-- Slot `s`, a matrix of 2000 rows. -/
def slot (s : Fin 3) : Memref sig .tc .vmem S2000x1000 .f32 :=
  (scratch.slice (Rect.unit (s := S3x2000x1000) ![s.val, 0, 0] S1x2000x1000.size (slot_inb s)) (fun _ => rfl)).squeeze S2000x1000 squeezes_S1x2000x1000_S2000x1000
/-- Block `b` of the logits: rows `2000 b` to `2000 b + 1999`. -/
def block (b : Fin 50) : Memref sig .tc .hbm S2000x1000 .f32 :=
  logits.slice (Rect.unit (s := S100000x1000) ![2000 * b.val, 0] S2000x1000.size (block_inb b)) (fun _ => rfl)
/-- Slot `s`'s semaphore. -/
def cell (s : Fin 3) : DmaSems sig S_ := (cc0_scratch1.slice (Rect.unit (s := S3) ![s.val] S1.size (cell_inb s))).squeeze S_ squeezes_S1_S_
/-- Slot `s`'s semaphore as a place of the machine. -/
abbrev cellLoc (s : Fin 3) : SemLoc sig := SemLoc.dma (cell s).sem

/-- The three slots' semaphores, by their places. -/
theorem cellLoc_zero : cellLoc 0 = SemLoc.dma 5 := by decide
@[inherit_doc cellLoc_zero] theorem cellLoc_one : cellLoc 1 = SemLoc.dma 6 := by decide
@[inherit_doc cellLoc_zero] theorem cellLoc_two : cellLoc 2 = SemLoc.dma 7 := by decide

/-- The contents a memref's buffer may have on core `c`. -/
abbrev Cont (c : Dev nD) {sp : Space} {S : Shape} {e : EltTy} (M : Memref sig .tc sp S e) : Type := Buf (Elt F) (M.view.loc (c : Thread nD τ))
/-- A memref's whole buffer held at `f`. -/
abbrev wholePt (c : Dev nD) {sp : Space} {S : Shape} {e : EltTy} (M : Memref sig .tc sp S e) (f : Cont (F := F) c M) : sProp 𝕄 :=
  M.view.loc (c : Thread nD τ) ↦{fullShare} f

/-! ## What is held of a slot -/

section Pieces
variable (c : Dev nD) (X : Cont (F := F) c logits)

/-- The read share of the logits that slot `s` keeps: a half, a quarter, a quarter. -/
abbrev slotShare (s : Fin 3) : PosShare TreeShare :=
  if s.val = 0 then fullShare.left else if s.val = 1 then fullShare.right.left else fullShare.right.right
/-- Slot `s` held at contents `f`. -/
abbrev slotPt (s : Fin 3) (f : Cont (F := F) c (slot s)) : sProp 𝕄 := (slot s).view.loc (c : Thread nD τ) ↦[(slot s).view.set]{fullShare} f
/-- Slot `s`'s semaphore at zero. -/
abbrev cellPt (s : Fin 3) : sProp 𝕄 := semVal ((c : Thread nD τ), cellLoc s) 0
/-- Block `b`'s elements, at slot `s`'s share. -/
abbrev blockPt (s : Fin 3) (b : Fin 50) : sProp 𝕄 := (block b).view.loc (c : Thread nD τ) ↦[(block b).view.set]{slotShare s} X
/-- All the logits but block `b`, at slot `s`'s share. -/
def butPt (s : Fin 3) (b : Fin 50) : sProp 𝕄 := ((c : Thread nD τ).loc main_arg0) ↦[Finset.univ \ (block b).view.set]{slotShare s} X
/-- All the logits but blocks `b` and `b'`, at slot `s`'s share. -/
def butPt₂ (s : Fin 3) (b b' : Fin 50) : sProp 𝕄 :=
  ((c : Thread nD τ).loc main_arg0) ↦[(Finset.univ \ (block b).view.set) \ (block b').view.set]{slotShare s} X
/-- All the logits, at slot `s`'s share. -/
abbrev allPt (s : Fin 3) : sProp 𝕄 := ((c : Thread nD τ).loc main_arg0) ↦[Finset.univ]{slotShare s} X
/-- Slot `s`'s contents once block `b` has landed in it. -/
abbrev landed (s : Fin 3) (b : Fin 50) (f : Cont (F := F) c (slot s)) : Cont (F := F) c (slot s) :=
  (slot s).view.writes (Elt F) f [⟨Rect.whole S2000x1000, ReadAs.same.apply ((block b).view.read (Elt F) X)⟩]
/-- Block `b` on its way into slot `s`: it will deliver the slot with the block in it, and the block's elements back. -/
abbrev flight (s : Fin 3) (b : Fin 50) (f : Cont (F := F) c (slot s)) : sProp 𝕄 :=
  Transfers.Flight countersEmb (c : Thread nD τ) (cellLoc s) default ((slot s).view.amount (cellLoc s))
    iprop(slotPt c s (landed c X s b f) ∗ blockPt c X s b)

/-- Slot `s` at rest: its semaphore at zero, the slot at some contents, its share of the logits whole. -/
def atRest (s : Fin 3) : sProp 𝕄 := iprop(cellPt c s ∗ (∃ f, slotPt c s f) ∗ allPt c X s)
/-- Slot `s` busy with block `b`: the transfer under way, and the rest of the slot's share of the logits. -/
def busy (s : Fin 3) (b : Fin 50) : sProp 𝕄 := iprop((∃ f, flight c X s b f) ∗ butPt c X s b)

/-- What is held, before grid point `k`, of the slot that point `k + j` reads (`j < 3`): busy with block `k + j` if
    the kernel has begun and the block exists, otherwise at rest. -/
def piece (k j : ℕ) : sProp 𝕄 :=
  if 0 < k ∧ k + j < 50 then busy c X (Ring.sl 3 (k + j)) (Ring.bk 50 (k + j)) else atRest c X (Ring.sl 3 (k + j))
/-- What is held of the three slots before grid point `k`. -/
def ring (k : ℕ) : sProp 𝕄 := iprop(piece c X k 0 ∗ piece c X k 1 ∗ piece c X k 2)

/-- Before a point, a slot whose block was started and exists is busy with it, -/
theorem piece_busy (k j : ℕ) (hk : 0 < k) (hj : k + j < 50) : piece c X k j = busy c X (Ring.sl 3 (k + j)) (Ring.bk 50 (k + j)) :=
  if_pos ⟨hk, hj⟩
/-- before the first point every slot is at rest, -/
theorem piece_zero (j : ℕ) : piece c X 0 j = atRest c X (Ring.sl 3 j) := by
  unfold piece; rw [if_neg (by omega), Nat.zero_add]
/-- and so is a slot without a further block. -/
theorem piece_late (k j : ℕ) (hj : 50 ≤ k + j) : piece c X k j = atRest c X (Ring.sl 3 (k + j)) := if_neg (by omega)
/-- One point on, the slot read next is the slot read one later before. -/
theorem piece_succ (k j : ℕ) (hk : 0 < k) : piece c X (k + 1) j = piece c X k (j + 1) := by
  unfold piece
  rw [show k + 1 + j = k + (j + 1) by omega]
  exact if_congr (by omega) rfl rfl

end Pieces

/-! ## Where the slots and the blocks lie -/

/-- The elements of slot `s` in the scratch buffer. -/
abbrev slotSet (s : Fin 3) : Finset S3x2000x1000.Idx := (Rect.unit (s := S3x2000x1000) ![s.val, 0, 0] S1x2000x1000.size (slot_inb s)).set
/-- A slot's places in the scratch buffer. -/
theorem slot_set (s : Fin 3) : (slot s).view.set = slotSet s := by
  simp only [slot, Memref.view_squeeze, View.set_reshape]; exact View.set_slice_whole _ _
/-- Different slots have no element in common. -/
theorem slotSet_disjoint (s s' : Fin 3) (h : s ≠ s') : Disjoint (slotSet s) (slotSet s') :=
  Ring.lead_disjoint (s := S3x2000x1000) (0 : Fin 3) 1 (fun s : Fin 3 => (![s.val, 0, 0] : Fin 3 → Nat)) S1x2000x1000.size slot_inb (fun s => by simp) rfl s s' h
/-- The slots make up the scratch buffer. -/
theorem slotSet_cover : Finset.univ.biUnion slotSet = Finset.univ :=
  Ring.lead_cover (s := S3x2000x1000) (0 : Fin 3) 1 (fun s : Fin 3 => (![s.val, 0, 0] : Fin 3 → Nat)) S1x2000x1000.size slot_inb (fun s => by simp)
    (fun s a ha => by fin_cases a <;> first | exact absurd rfl ha | rfl) rfl (fun a ha => by fin_cases a <;> first | exact absurd rfl ha | rfl) rfl

/-- The elements of block `b` in the logits. -/
abbrev blockSet (b : Fin 50) : Finset S100000x1000.Idx := (Rect.unit (s := S100000x1000) ![2000 * b.val, 0] S2000x1000.size (block_inb b)).set
/-- A block's places in the logits. -/
theorem block_set (b : Fin 50) : (block b).view.set = blockSet b := View.set_slice_whole _ _
/-- Different blocks have no element in common. -/
theorem blockSet_disjoint (b b' : Fin 50) (h : b ≠ b') : Disjoint (blockSet b) (blockSet b') :=
  Ring.lead_disjoint (s := S100000x1000) (0 : Fin 2) 2000 (fun b : Fin 50 => (![2000 * b.val, 0] : Fin 2 → Nat)) S2000x1000.size block_inb (fun b => by simp) rfl b b' h

section Splits
variable (c : Dev nD) (X : Cont (F := F) c logits)

/-- Holding a slot is holding its places of the scratch buffer. -/
theorem slotPt_eq (s : Fin 3) (f) : slotPt (F := F) c s f = (((c : Thread nD τ).loc cc0_scratch0) ↦[slotSet s]{fullShare} f : sProp 𝕄) := by
  unfold slotPt; rw [slot_set]; rfl

/-- A slot's share of the logits is block `b` and the rest. -/
theorem all_split (s : Fin 3) (b : Fin 50) : allPt (F := F) c X s ⊣⊢ iprop(blockPt c X s b ∗ butPt c X s b) := by
  unfold butPt; exact pointsTo_split_subset (Finset.subset_univ _)
/-- All but block `b` is block `b'` and the rest, for another block `b'`. -/
theorem but_split (s : Fin 3) (b b' : Fin 50) (h : b ≠ b') : butPt (F := F) c X s b ⊣⊢ iprop(blockPt c X s b' ∗ butPt₂ c X s b b') := by
  unfold butPt butPt₂
  refine pointsTo_split_subset ?_
  rw [block_set b, block_set b']
  exact Finset.subset_sdiff.mpr ⟨Finset.subset_univ _, blockSet_disjoint b' b h.symm⟩
/-- All but `b` and `b'`, is all but `b'` and `b`. -/
theorem but₂_comm (s : Fin 3) (b b' : Fin 50) : butPt₂ (F := F) c X s b b' = butPt₂ c X s b' b := by
  unfold butPt₂
  exact congrArg (fun S : Finset S100000x1000.Idx => (((c : Thread nD τ).loc main_arg0) ↦[S]{slotShare s} X : sProp 𝕄)) (sdiff_right_comm _ _ _)
/-- A transfer started over contents of the slot that were themselves written. -/
theorem flight_over (s : Fin 3) (b : Fin 50) (f : Cont (F := F) c (slot s)) (q : View.Piece (Elt F) S2000x1000 .f32) :
    Transfers.Flight countersEmb (c : Thread nD τ) (cellLoc s) default ((slot s).view.amount (cellLoc s))
        iprop(slotPt c s ((slot s).view.writes (Elt F) f [⟨Rect.whole S2000x1000, ReadAs.same.apply ((block b).view.read (Elt F) X)⟩, q]) ∗ blockPt c X s b)
      ⊢ (iprop(∃ f, flight c X s b f) : sProp 𝕄) :=
  exists_intro (Φ := fun f => flight c X s b f) ((slot s).view.writes (Elt F) f [q])

/-- One block out, another back: a slot's share of the logits without block `b'`. -/
theorem rejoin (s : Fin 3) (b b' : Fin 50) (h : b ≠ b') :
    iprop(blockPt c X s b ∗ butPt₂ c X s b b') ⊢ (butPt (F := F) c X s b' : sProp 𝕄) := by
  rw [but₂_comm]; exact (but_split c X s b' b h.symm).2

/-- The logits held whole are the three slots' shares. -/
theorem shares : (wholePt c logits X : sProp 𝕄) ⊣⊢ iprop(allPt c X 0 ∗ allPt c X 1 ∗ allPt c X 2) := by
  have hl : (wholePt c logits X : sProp 𝕄) ⊣⊢ iprop(allPt c X 0 ∗ (((c : Thread nD τ).loc main_arg0) ↦[Finset.univ]{fullShare.right} X)) :=
    pointsTo_share (PosShare.mem_left_op_right fullShare)
  have hr : ((((c : Thread nD τ).loc main_arg0) ↦[Finset.univ]{fullShare.right} X) : sProp 𝕄) ⊣⊢ iprop(allPt c X 1 ∗ allPt c X 2) :=
    pointsTo_share (PosShare.mem_left_op_right fullShare.right)
  refine ⟨?_, ?_⟩
  · iintro H
    ihave H' := hl.1 $$ H
    icases H' with ⟨Ha, Hb⟩
    ihave H'' := hr.1 $$ Hb
    icases H'' with ⟨Hb, Hd⟩
    isplitl [Ha]; · iexact Ha
    isplitl [Hb]; · iexact Hb
    iexact Hd
  · iintro ⟨Ha, Hb, Hd⟩
    iapply hl.2
    isplitl [Ha]; · iexact Ha
    iapply hr.2
    isplitl [Hb]; · iexact Hb
    iexact Hd

/-- The scratch buffer at some contents is the three slots at some contents each. -/
theorem slots_apart : iprop(∃ d, owns (c : Thread nD τ) scratch fullShare d) ⊢ (iprop((∃ f, slotPt (F := F) c 0 f) ∗ (∃ f, slotPt (F := F) c 1 f) ∗ ∃ f, slotPt (F := F) c 2 f) : sProp 𝕄) := by
  simp only [scratch, owns_whole]
  exact Ring.slots3_split (U := Pipeline.UD sig nD τ) (ℓ := (c : Thread nD τ).loc cc0_scratch0) (q := fullShare) slotSet slotSet_disjoint slotSet_cover
    (slotPt c 0) (slotPt c 1) (slotPt c 2) (slotPt_eq c 0) (slotPt_eq c 1) (slotPt_eq c 2)
/-- And back. -/
theorem slots_joined : (iprop((∃ f, slotPt (F := F) c 0 f) ∗ (∃ f, slotPt (F := F) c 1 f) ∗ ∃ f, slotPt (F := F) c 2 f) : sProp 𝕄) ⊢ iprop(∃ d, owns (c : Thread nD τ) scratch fullShare d) := by
  simp only [scratch, owns_whole]
  exact Ring.slots3_join (U := Pipeline.UD sig nD τ) (ℓ := (c : Thread nD τ).loc cc0_scratch0) (q := fullShare) slotSet slotSet_disjoint slotSet_cover
    (slotPt c 0) (slotPt c 1) (slotPt c 2) (slotPt_eq c 0) (slotPt_eq c 1) (slotPt_eq c 2)

/-- What the kernel is launched with, of the three slots: the scratch buffer, the semaphores at zero, the logits. -/
def idle (c : Dev nD) (X : Cont (F := F) c logits) : sProp 𝕄 :=
  iprop((∃ d, owns (c : Thread nD τ) scratch fullShare d)
    ∗ (semVal ((c : Thread nD τ), SemLoc.dma 5) 0 ∗ semVal ((c : Thread nD τ), SemLoc.dma 6) 0 ∗ semVal ((c : Thread nD τ), SemLoc.dma 7) 0)
    ∗ wholePt c logits X)

/-- That is the three slots at rest. -/
theorem idle_iff : idle (F := F) c X ⊣⊢ iprop(atRest c X 0 ∗ atRest c X 1 ∗ atRest c X 2) := by
  unfold idle atRest cellPt
  rw [cellLoc_zero, cellLoc_one, cellLoc_two]
  refine ⟨?_, ?_⟩
  · iintro ⟨HS, ⟨Ha, Hb, Hd⟩, HX⟩
    ihave HS' := (slots_apart (F := F) c) $$ HS
    icases HS' with ⟨HSa, HSb, HSd⟩
    ihave HX' := (shares (F := F) c X).1 $$ HX
    icases HX' with ⟨HXa, HXb, HXd⟩
    isplitl [Ha HSa HXa]
    · isplitl [Ha]; · iexact Ha
      isplitl [HSa]; · iexact HSa
      iexact HXa
    isplitl [Hb HSb HXb]
    · isplitl [Hb]; · iexact Hb
      isplitl [HSb]; · iexact HSb
      iexact HXb
    isplitl [Hd]; · iexact Hd
    isplitl [HSd]; · iexact HSd
    iexact HXd
  · iintro ⟨⟨Ha, HSa, HXa⟩, ⟨Hb, HSb, HXb⟩, ⟨Hd, HSd, HXd⟩⟩
    isplitl [HSa HSb HSd]
    · iapply (slots_joined (F := F) c)
      isplitl [HSa]; · iexact HSa
      isplitl [HSb]; · iexact HSb
      iexact HSd
    isplitl [Ha Hb Hd]
    · isplitl [Ha]; · iexact Ha
      isplitl [Hb]; · iexact Hb
      iexact Hd
    iapply (shares (F := F) c X).2
    isplitl [HXa]; · iexact HXa
    isplitl [HXb]; · iexact HXb
    iexact HXd

/-- The kernel begins with the three slots at rest. -/
theorem ring_begin : idle (F := F) c X ⊢ ring c X 0 := by
  unfold ring
  rw [piece_zero, piece_zero, piece_zero]
  exact (idle_iff c X).1

/-- And ends with them at rest. -/
theorem ring_end : ring (F := F) c X 50 ⊢ idle c X := by
  unfold ring
  rw [piece_late c X 50 0 (by omega), piece_late c X 50 1 (by omega), piece_late c X 50 2 (by omega)]
  refine .trans ?_ (idle_iff c X).2
  rw [show Ring.sl 3 (50 + 0) = 2 from rfl, show Ring.sl 3 (50 + 1) = 0 from rfl, show Ring.sl 3 (50 + 2) = 1 from rfl]
  iintro ⟨H2, H0, H1⟩
  isplitl [H0]; · iexact H0
  isplitl [H1]; · iexact H1
  iexact H2

end Splits

end Cert.KernelIdeal.Ece

end
-- ==== Proof.Ideal.Names.lean ====
/-
  The body's branch conditions and its offsets, decided over the grid, and the names of Ring.lean for the slots, the
  blocks and the cells that the body addresses by those offsets.
-/
module

public import proofs.«01_k».proof.Proof.Ideal.Ring

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The branch conditions -/

/-- The first point: the bins are cleared and three blocks started. -/
abbrev Begins (t : Fin cfg0.N) : Prop := k0_cond1 (grid0.coords t) = 1#1
/-- A point that starts the block three points ahead. -/
abbrev Starts (t : Fin cfg0.N) : Prop := k0_cond2 (grid0.coords t) = 1#1
/-- The last point: the result is computed from the bins. -/
abbrev Ends (t : Fin cfg0.N) : Prop := k0_cond3 (grid0.coords t) = 1#1

/-- Which point is the first, -/
theorem begins_iff : ∀ t : Fin cfg0.N, Begins t ↔ t.val = 0 :=
  (by decide +kernel : ∀ t : Fin grid0.N, k0_cond1 (grid0.coords t) = 1#1 ↔ t.val = 0)
/-- which points start a block, -/
theorem starts_iff : ∀ t : Fin cfg0.N, Starts t ↔ t.val + 3 < 50 :=
  (by decide +kernel : ∀ t : Fin grid0.N, k0_cond2 (grid0.coords t) = 1#1 ↔ t.val + 3 < 50)
/-- and which point is the last. -/
theorem ends_iff : ∀ t : Fin cfg0.N, Ends t ↔ t.val = 49 :=
  (by decide +kernel : ∀ t : Fin grid0.N, k0_cond3 (grid0.coords t) = 1#1 ↔ t.val = 49)

/-! ## The offsets of the body, in closed form -/

section Offsets
omit [FloatOps F] [Named F]

set_option synthInstance.maxSize 4096

/-- The offset of the first point's `r`-th slot: the slot of the point `r` later. -/
theorem off_slot_first : ∀ t : Fin grid0.N, k0_cond1 (grid0.coords t) = 1#1 → ∀ r : Fin 3, k0_off2 (BitVec.ofNat 32 r.val) = ![(Ring.sl 3 (t.val + r.val)).val, 0, 0] := by decide +kernel
/-- The offset of the semaphore of that slot. -/
theorem off_cell_first : ∀ t : Fin grid0.N, k0_cond1 (grid0.coords t) = 1#1 → ∀ r : Fin 3, k0_off1 (BitVec.ofNat 32 r.val) = ![(Ring.sl 3 (t.val + r.val)).val] := by decide +kernel
/-- The offset of the block that lands in that slot. -/
theorem off_block_first : ∀ t : Fin grid0.N, k0_cond1 (grid0.coords t) = 1#1 → ∀ r : Fin 3, (![2000 * r.val, 0] : Fin 2 → Nat) = ![2000 * (Ring.bk 50 (t.val + r.val)).val, 0] := by decide +kernel
/-- The offset of the semaphore that a point waits on, -/
theorem off_cell_wait : ∀ t : Fin grid0.N, k0_off3 (grid0.coords t) = ![(Ring.sl 3 t.val).val] := by decide +kernel
/-- of the slot that it waits for, -/
theorem off_slot_wait : ∀ t : Fin grid0.N, k0_off4 (grid0.coords t) = ![(Ring.sl 3 t.val).val, 0, 0] := by decide +kernel
/-- and of the slot that it loads: its own. -/
theorem off_slot_load : ∀ t : Fin grid0.N, k0_off6 (grid0.coords t) = ![(Ring.sl 3 t.val).val, 0, 0] := by decide +kernel
/-- The offset of the semaphore of the block started three points ahead, -/
theorem off_cell_next : ∀ t : Fin grid0.N, k0_off7 (grid0.coords t) = ![(Ring.sl 3 t.val).val] := by decide +kernel
/-- of that block's slot, which is the point's own, -/
theorem off_slot_next : ∀ t : Fin grid0.N, k0_off8 (grid0.coords t) = ![(Ring.sl 3 t.val).val, 0, 0] := by decide +kernel
/-- and of the block itself. -/
theorem off_block_next : ∀ t : Fin grid0.N, k0_cond2 (grid0.coords t) = 1#1 → k0_off9 (grid0.coords t) = ![2000 * (Ring.bk 50 (t.val + 3)).val, 0] := by decide +kernel

/-! ## The body's slots, blocks and cells by name -/

/-- A slot is named by its offset. -/
theorem slot_named (o : Fin 3 → Nat) (s : Fin 3) (ho : o = ![s.val, 0, 0]) (h : ∀ a, o a + S1x2000x1000.size a ≤ S3x2000x1000.size a) :
    (scratch.slice (Rect.unit (s := S3x2000x1000) o S1x2000x1000.size h) (fun _ => rfl)).squeeze S2000x1000 squeezes_S1x2000x1000_S2000x1000 = slot s :=
  congrArg (fun M : Memref sig .tc .vmem S1x2000x1000 .f32 => M.squeeze S2000x1000 squeezes_S1x2000x1000_S2000x1000) (Memref.slice_unit_congr _ ho _ _ (fun _ => rfl) (fun _ => rfl))
/-- A cell is named by its offset. -/
theorem cell_named (o : Fin 1 → Nat) (s : Fin 3) (ho : o = ![s.val]) (h : ∀ a, o a + S1.size a ≤ S3.size a) :
    (cc0_scratch1.slice (Rect.unit (s := S3) o S1.size h)).squeeze S_ squeezes_S1_S_ = cell s :=
  congrArg (fun A : DmaSems sig S1 => A.squeeze S_ squeezes_S1_S_) (SemArray.slice_unit_congr _ ho _ _)
/-- A block is named by its offset. -/
theorem block_named (o : Fin 2 → Nat) (b : Fin 50) (ho : o = ![2000 * b.val, 0]) (h : ∀ a, o a + S2000x1000.size a ≤ S100000x1000.size a) :
    logits.slice (Rect.unit (s := S100000x1000) o S2000x1000.size h) (fun _ => rfl) = block b :=
  Memref.slice_unit_congr _ ho _ _ (fun _ => rfl) (fun _ => rfl)

variable (t : Fin grid0.N)

@[sl_canon] theorem name_slot_0 (h : k0_cond1 (grid0.coords t) = 1#1) :
    (scratch.slice (Rect.unit (s := S3x2000x1000) (k0_off2 0#32) S1x2000x1000.size (k0_off2_inb (grid0.coords t) h 0)) (fun _ => rfl)).squeeze S2000x1000 squeezes_S1x2000x1000_S2000x1000 = slot (Ring.sl 3 t.val) :=
  slot_named _ _ (off_slot_first t h 0) _
@[sl_canon] theorem name_slot_1 (h : k0_cond1 (grid0.coords t) = 1#1) :
    (scratch.slice (Rect.unit (s := S3x2000x1000) (k0_off2 1#32) S1x2000x1000.size (k0_off2_inb (grid0.coords t) h 1)) (fun _ => rfl)).squeeze S2000x1000 squeezes_S1x2000x1000_S2000x1000 = slot (Ring.sl 3 (t.val + 1)) :=
  slot_named _ _ (off_slot_first t h 1) _
@[sl_canon] theorem name_slot_2 (h : k0_cond1 (grid0.coords t) = 1#1) :
    (scratch.slice (Rect.unit (s := S3x2000x1000) (k0_off2 2#32) S1x2000x1000.size (k0_off2_inb (grid0.coords t) h 2)) (fun _ => rfl)).squeeze S2000x1000 squeezes_S1x2000x1000_S2000x1000 = slot (Ring.sl 3 (t.val + 2)) :=
  slot_named _ _ (off_slot_first t h 2) _
@[sl_canon] theorem name_cell_0 (h : k0_cond1 (grid0.coords t) = 1#1) :
    (cc0_scratch1.slice (Rect.unit (s := S3) (k0_off1 0#32) S1.size (k0_off1_inb (grid0.coords t) h 0))).squeeze S_ squeezes_S1_S_ = cell (Ring.sl 3 t.val) :=
  cell_named _ _ (off_cell_first t h 0) _
@[sl_canon] theorem name_cell_1 (h : k0_cond1 (grid0.coords t) = 1#1) :
    (cc0_scratch1.slice (Rect.unit (s := S3) (k0_off1 1#32) S1.size (k0_off1_inb (grid0.coords t) h 1))).squeeze S_ squeezes_S1_S_ = cell (Ring.sl 3 (t.val + 1)) :=
  cell_named _ _ (off_cell_first t h 1) _
@[sl_canon] theorem name_cell_2 (h : k0_cond1 (grid0.coords t) = 1#1) :
    (cc0_scratch1.slice (Rect.unit (s := S3) (k0_off1 2#32) S1.size (k0_off1_inb (grid0.coords t) h 2))).squeeze S_ squeezes_S1_S_ = cell (Ring.sl 3 (t.val + 2)) :=
  cell_named _ _ (off_cell_first t h 2) _
/-- The first point's blocks: those of this point, the next and the one after. -/
theorem name_block_0 (h : k0_cond1 (grid0.coords t) = 1#1) :
    logits.slice (Rect.unit (s := S100000x1000) ![0, 0] S2000x1000.size inb_S100000x1000_S2000x1000_0_0) (fun _ => rfl) = block (Ring.bk 50 t.val) :=
  block_named _ _ (off_block_first t h 0) _
/-- The second block that the first point starts, -/
theorem name_block_1 (h : k0_cond1 (grid0.coords t) = 1#1) :
    logits.slice (Rect.unit (s := S100000x1000) ![2000, 0] S2000x1000.size inb_S100000x1000_S2000x1000_2000_0) (fun _ => rfl) = block (Ring.bk 50 (t.val + 1)) :=
  block_named _ _ (off_block_first t h 1) _
/-- and the third. -/
theorem name_block_2 (h : k0_cond1 (grid0.coords t) = 1#1) :
    logits.slice (Rect.unit (s := S100000x1000) ![4000, 0] S2000x1000.size inb_S100000x1000_S2000x1000_4000_0) (fun _ => rfl) = block (Ring.bk 50 (t.val + 2)) :=
  block_named _ _ (off_block_first t h 2) _

@[sl_canon] theorem name_slot_wait :
    (scratch.slice (Rect.unit (s := S3x2000x1000) (k0_off4 (grid0.coords t)) S1x2000x1000.size (k0_off4_inb (grid0.coords t))) (fun _ => rfl)).squeeze S2000x1000 squeezes_S1x2000x1000_S2000x1000 = slot (Ring.sl 3 t.val) :=
  slot_named _ _ (off_slot_wait t) _
@[sl_canon] theorem name_cell_wait :
    (cc0_scratch1.slice (Rect.unit (s := S3) (k0_off3 (grid0.coords t)) S1.size (k0_off3_inb (grid0.coords t)))).squeeze S_ squeezes_S1_S_ = cell (Ring.sl 3 t.val) :=
  cell_named _ _ (off_cell_wait t) _
@[sl_canon] theorem name_slot_next (h : k0_cond2 (grid0.coords t) = 1#1) :
    (scratch.slice (Rect.unit (s := S3x2000x1000) (k0_off8 (grid0.coords t)) S1x2000x1000.size (k0_off8_inb (grid0.coords t) h)) (fun _ => rfl)).squeeze S2000x1000 squeezes_S1x2000x1000_S2000x1000 = slot (Ring.sl 3 t.val) :=
  slot_named _ _ (off_slot_next t) _
@[sl_canon] theorem name_cell_next (h : k0_cond2 (grid0.coords t) = 1#1) :
    (cc0_scratch1.slice (Rect.unit (s := S3) (k0_off7 (grid0.coords t)) S1.size (k0_off7_inb (grid0.coords t) h))).squeeze S_ squeezes_S1_S_ = cell (Ring.sl 3 t.val) :=
  cell_named _ _ (off_cell_next t) _
@[sl_canon] theorem name_block_next (h : k0_cond2 (grid0.coords t) = 1#1) :
    logits.slice (Rect.unit (s := S100000x1000) (k0_off9 (grid0.coords t)) S2000x1000.size (k0_off9_inb (grid0.coords t) h)) (fun _ => rfl) = block (Ring.bk 50 (t.val + 3)) :=
  block_named _ _ (off_block_next t h) _

/-- The load of the slot reads slot `t % 3`. -/
instance (priority := high) load_closed : ClosedOff (k0_off6 (grid0.coords t)) := ⟨![(Ring.sl 3 t.val).val, 0, 0], off_slot_load t⟩

end Offsets

end Cert.KernelIdeal.Ece

end
-- ==== Proof.Ideal.Step.lean ====
/-
  What one grid point does to the bins, as a function: from the point's block of logits, its labels and the bin bounds,
  each of the three rows of the bins gains its sum. And the result as a function of the final bins.
-/
module

public import proofs.«01_k».proof.Proof.Ideal.Names
public import proofs.«01_k».proof.Proof.Gen.KernelIdeal.Skeleton
public import Idealize.ShloMosaic.Lib.Pipeline.Value

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The rows of the bins. -/
abbrev row0 : Rect S3x10 := Rect.unit (s := S3x10) ![0, 0] S1x10.size inb_S3x10_S1x10_0_0
@[inherit_doc row0] abbrev row1 : Rect S3x10 := Rect.unit (s := S3x10) ![1, 0] S1x10.size inb_S3x10_S1x10_1_0
@[inherit_doc row0] abbrev row2 : Rect S3x10 := Rect.unit (s := S3x10) ![2, 0] S1x10.size inb_S3x10_S1x10_2_0

/-- Block `b` of the logits as the body loads it from its slot: with a leading unit axis. -/
def tile (c : Dev nD) (X : Cont (F := F) c logits) (b : Fin 50) : Vec F S1x2000x1000 .f32 :=
  shapeCast S1x2000x1000 ((block b).view.read (Elt F) X) (by decide)
/-- The lower and the upper bounds of the ten bins. -/
def lows (x1 : Vec F S1x11 .f32) : Vec F S1x10 .f32 := View.ld x1 (Rect.unit (s := S1x11) ![0, 0] S1x10.size inb_S1x11_S1x10_0_0)
@[inherit_doc lows] def highs (x1 : Vec F S1x11 .f32) : Vec F S1x10 .f32 := View.ld x1 (Rect.unit (s := S1x11) ![0, 1] S1x10.size inb_S1x11_S1x10_0_1)

/-- The three rows the body stores, last first: from the labels `x0`, the bounds `x1`, the block `v` and the three rows
    as they were. -/
def pieces (x0 : Vec F S2000x1 .i32) (x1 : Vec F S1x11 .f32) (v : Vec F S1x2000x1000 .f32) (b0 b1 b2 : Vec F S1x10 .f32) :
    List (View.Piece (Elt F) S3x10 .f32) :=
  [⟨row2, k0_pay1 (k0_pay13 b2) (k0_pay14 (k0_pay5 v) (k0_pay6 v) (lows x1) (highs x1))⟩,
   ⟨row1, k0_pay12 (k0_pay4 v) (k0_pay5 v) (k0_pay6 v) (k0_pay7 x0) k0_pay8 (lows x1) (highs x1) b1⟩,
   ⟨row0, k0_pay11 (k0_pay5 v) (k0_pay6 v) (lows x1) (highs x1) b0⟩]
/-- The three rows are the whole of the bins. -/
theorem pieces_cover (x0 : Vec F S2000x1 .i32) (x1 : Vec F S1x11 .f32) (v : Vec F S1x2000x1000 .f32) (b0 b1 b2 : Vec F S1x10 .f32) (y : S3x10.Idx) :
    ∃ p ∈ pieces x0 x1 v b0 b1 b2, y ∈ p.1.set :=
  View.cover_of_tiledL (pieces x0 x1 v b0 b1 b2) S1x10.size (by sl_kernel_rfl) y
/-- The bins after a point, from the bins `b` before it. -/
def step (x0 : Vec F S2000x1 .i32) (x1 : Vec F S1x11 .f32) (v : Vec F S1x2000x1000 .f32) (b : Vec F S3x10 .f32) : Vec F S3x10 .f32 :=
  View.canon (pieces x0 x1 v (View.ld b row0) (View.ld b row1) (View.ld b row2))
/-- The result from the final bins. -/
def result (b : Vec F S3x10 .f32) : Vec F S1x1 .f32 := k0_pay2 (View.ld b row0) (View.ld b row1) (View.ld b row2)

/-- Once block `b` has landed in the point's slot, the body's load of the slot reads the block. -/
theorem load_landed (c : Dev nD) (t : Fin grid0.N) (X : Cont (F := F) c logits) (b : Fin 50) (f : Cont (F := F) c (slot (Ring.sl 3 t.val)))
    (h : ∀ a, (k0_off6 (grid0.coords t)) a + S1x2000x1000.size a ≤ S3x2000x1000.size a) :
    View.readAt (Elt F) scratch.view (Rect.unit (s := S3x2000x1000) (k0_off6 (grid0.coords t)) S1x2000x1000.size h).toLoadRect (landed c X (Ring.sl 3 t.val) b f) = tile c X b := by
  have hc : (Rect.unit (s := S3x2000x1000) ![(Ring.sl 3 t.val).val, 0, 0] S1x2000x1000.size (slot_inb _)).shape.ShapeCasts S2000x1000 := (by decide : S1x2000x1000.ShapeCasts S2000x1000)
  have hr := Memref.read_squeeze_slice (Val := Elt F) scratch (Rect.unit (s := S3x2000x1000) ![(Ring.sl 3 t.val).val, 0, 0] S1x2000x1000.size (slot_inb _)) (fun _ => rfl) squeezes_S1x2000x1000_S2000x1000 hc (landed c X (Ring.sl 3 t.val) b f)
  have hw : (slot (Ring.sl 3 t.val)).view.read (Elt F) (landed c X (Ring.sl 3 t.val) b f) = (block b).view.read (Elt F) X :=
    View.read_writes_whole _ _ _
  refine (View.readAt_unit_congr scratch.view (off_slot_load t) h (slot_inb _) _).trans ?_
  refine (shapeCast_shapeCast _ hc (by decide : S2000x1000.ShapeCasts S1x2000x1000)).symm.trans ?_
  exact congrArg (fun w => shapeCast S1x2000x1000 w _) (hr.symm.trans hw)

end Cert.KernelIdeal.Ece

end
-- ==== Proof.Ideal.RunFirst.lean ====
/-
  The body at the first grid point.
-/
module

public import proofs.«01_k».proof.Proof.Ideal.Names
public import proofs.«01_k».proof.Proof.Gen.KernelIdeal.Skeleton

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at the first point. From the three slots at rest, the labels and the bounds in their buffers, and anything
    in the bins' buffer, it runs through and leaves: the labels and the bounds as they were; the bins' buffer with the
    returned pieces written; the result's buffer untouched; slots 1 and 2 busy with blocks 1 and 2; slot 0 busy with
    block 3. -/
noncomputable def runFirst (c : Dev nD) (t : Fin cfg0.N) (arg2 : Memref sig .tc .vmem S2000x1 .i32) (harg2 : arg2.IsWhole) (arg3 : Memref sig .tc .vmem S1x11 .f32) (harg3 : arg3.IsWhole) (arg4 : Memref sig .tc .vmem S3x10 .f32) (harg4 : arg4.IsWhole) (arg5 : Memref sig .tc .vmem S1x1 .f32) (harg5 : arg5.IsWhole)
    (hc0 : Begins t) (hc1 : Starts t) (hc2 : ¬Ends t) (hne : Ring.bk 50 t.val ≠ Ring.bk 50 (t.val + 3))
    (x0 : Vec F S2000x1 .i32) (x1 : Vec F S1x11 .f32) (X : Cont (F := F) c logits) :
    { L2 : List (View.Piece (Elt F) S3x10 .f32) //
      ∀ (xi3 : Vec F S1x1 .f32) (W : Waits sig Unit) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3
            ∗ atRest c X (Ring.sl 3 t.val) ∗ atRest c X (Ring.sl 3 (t.val + 1)) ∗ atRest c X (Ring.sl 3 (t.val + 2)) ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3
                ∗ busy c X (Ring.sl 3 (t.val + 1)) (Ring.bk 50 (t.val + 1)) ∗ busy c X (Ring.sl 3 (t.val + 2)) (Ring.bk 50 (t.val + 2)) ∗ busy c X (Ring.sl 3 t.val) (Ring.bk 50 (t.val + 3)) ∗ (∃ W', owes (c : Thread nD τ) 0 W')) -∗ K ⟨⟩))
          ⊢ wp frame (wpE (defs₀ (F := F)) Variants.none c none) Set.univ (cc0__ece_body (grid0.coords t) (Memref.whole main_arg0) (Memref.isWhole_whole _) arg2 harg2 arg3 harg3 arg4 harg4 arg5 harg5 scratch (Memref.isWhole_whole _) cc0_scratch1) K } := by
  refine ⟨?_, fun xi3 W K => ?run⟩
  case run =>
    haveI : Fact (k0_cond1 (grid0.coords t) = 1#1) := ⟨hc0⟩
    haveI : Fact (k0_cond2 (grid0.coords t) = 1#1) := ⟨hc1⟩
    haveI : Fact (¬k0_cond3 (grid0.coords t) = 1#1) := ⟨hc2⟩
    simp only [cc0__ece_body_eq_skeleton]; unfold cc0__ece_body_skel
    simp only [k0_part1_eq_skeleton, k0_part2_eq_skeleton]
    have hcanon0 := name_block_0 t hc0
    have hcanon1 := name_block_1 t hc0
    have hcanon2 := name_block_2 t hc0
    unfold owns atRest busy
    iintro ⟨⟨%f0, %hf0, H0⟩, ⟨%f1, %hf1, H1⟩, ⟨%d2, %f2, -, H2⟩, ⟨%f3, %hf3, H3⟩, ⟨Hca, ⟨%fa, Hsa⟩, Hwa⟩, ⟨Hcb, ⟨%fb, Hsb⟩, Hwb⟩, ⟨Hcd, ⟨%fd, Hsd⟩, Hwd⟩, HW, Hk⟩
    ihave Hwa' := (all_split c X (Ring.sl 3 t.val) (Ring.bk 50 t.val)).1 $$ Hwa
    icases Hwa' with ⟨Hba, Hra⟩
    ihave Hra' := (but_split c X (Ring.sl 3 t.val) (Ring.bk 50 t.val) (Ring.bk 50 (t.val + 3)) hne).1 $$ Hra
    icases Hra' with ⟨Hbe, Hre⟩
    ihave Hwb' := (all_split c X (Ring.sl 3 (t.val + 1)) (Ring.bk 50 (t.val + 1))).1 $$ Hwb
    icases Hwb' with ⟨Hbb, Hrb⟩
    ihave Hwd' := (all_split c X (Ring.sl 3 (t.val + 2)) (Ring.bk 50 (t.val + 2))).1 $$ Hwd
    icases Hwd' with ⟨Hbd, Hrd⟩
    obtain rfl := harg2.eq_unread hf0; obtain rfl := harg3.eq_unread hf1; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [Hcb Hrb]
    · isplitl [Hcb]; · iexists _; iexact Hcb
      iexact Hrb
    isplitl [Hcd Hrd]
    · isplitl [Hcd]; · iexists _; iexact Hcd
      iexact Hrd
    isplitl [Hca Hba Hre]
    · isplitl [Hca]
      · iapply flight_over c X (Ring.sl 3 t.val) (Ring.bk 50 (t.val + 3)); iexact Hca
      iapply rejoin c X (Ring.sl 3 t.val) _ _ hne
      isplitl [Hba]; · iexact Hba
      iexact Hre
    iexists _; iexact HW

end Cert.KernelIdeal.Ece

end
-- ==== Proof.Ideal.RunMiddle.lean ====
/-
  The body at a grid point between the first and the last that starts a block.
-/
module

public import proofs.«01_k».proof.Proof.Ideal.RunFirst
public import proofs.«01_k».proof.Proof.Gen.KernelIdeal.Skeleton

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at a middle point that starts a block: its slot comes busy with the point's block and leaves busy with the
    block three points ahead.
    The labels and the bounds stay as they were, the bins' buffer (at `xo2` before) ends with the returned pieces
    written, the result's buffer stays. -/
noncomputable def runMiddle (c : Dev nD) (t : Fin cfg0.N) (arg2 : Memref sig .tc .vmem S2000x1 .i32) (harg2 : arg2.IsWhole) (arg3 : Memref sig .tc .vmem S1x11 .f32) (harg3 : arg3.IsWhole) (arg4 : Memref sig .tc .vmem S3x10 .f32) (harg4 : arg4.IsWhole) (arg5 : Memref sig .tc .vmem S1x1 .f32) (harg5 : arg5.IsWhole)
    (hc0 : ¬Begins t) (hc1 : Starts t) (hc2 : ¬Ends t) (hne : Ring.bk 50 t.val ≠ Ring.bk 50 (t.val + 3))
    (x0 : Vec F S2000x1 .i32) (x1 : Vec F S1x11 .f32) (xo2 : Vec F S3x10 .f32) (X : Cont (F := F) c logits) :
    { L2 : List (View.Piece (Elt F) S3x10 .f32) //
      ∀ (xi3 : Vec F S1x1 .f32) (W : Waits sig Unit) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3
            ∗ busy c X (Ring.sl 3 t.val) (Ring.bk 50 t.val) ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3
                ∗ busy c X (Ring.sl 3 t.val) (Ring.bk 50 (t.val + 3)) ∗ (∃ W', owes (c : Thread nD τ) 0 W')) -∗ K ⟨⟩))
          ⊢ wp frame (wpE (defs₀ (F := F)) Variants.none c none) Set.univ (cc0__ece_body (grid0.coords t) (Memref.whole main_arg0) (Memref.isWhole_whole _) arg2 harg2 arg3 harg3 arg4 harg4 arg5 harg5 scratch (Memref.isWhole_whole _) cc0_scratch1) K } := by
  refine ⟨?_, fun xi3 W K => ?run⟩
  case run =>
    haveI : Fact (¬k0_cond1 (grid0.coords t) = 1#1) := ⟨hc0⟩
    haveI : Fact (k0_cond2 (grid0.coords t) = 1#1) := ⟨hc1⟩
    haveI : Fact (¬k0_cond3 (grid0.coords t) = 1#1) := ⟨hc2⟩
    simp only [cc0__ece_body_eq_skeleton]; unfold cc0__ece_body_skel
    simp only [k0_part1_eq_skeleton, k0_part2_eq_skeleton]
    unfold owns busy
    iintro ⟨⟨%f0, %hf0, H0⟩, ⟨%f1, %hf1, H1⟩, ⟨%f2, %hf2, H2⟩, ⟨%f3, %hf3, H3⟩, ⟨⟨%fa, Hf⟩, Hr⟩, HW, Hk⟩
    ihave Hr' := (but_split c X (Ring.sl 3 t.val) (Ring.bk 50 t.val) (Ring.bk 50 (t.val + 3)) hne).1 $$ Hr
    icases Hr' with ⟨Hb, Hr⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [Hf Hf_src Hr]
    · isplitl [Hf]; · iapply flight_over c X (Ring.sl 3 t.val) (Ring.bk 50 (t.val + 3)); iexact Hf
      iapply rejoin c X (Ring.sl 3 t.val) _ _ hne
      isplitl [Hf_src]; · iexact Hf_src
      iexact Hr
    iexists _; iexact HW

end Cert.KernelIdeal.Ece

end
-- ==== Proof.Ideal.RunLate.lean ====
/-
  The body at a grid point after which no block is left to start, the last point apart.
-/
module

public import proofs.«01_k».proof.Proof.Ideal.RunMiddle
public import proofs.«01_k».proof.Proof.Gen.KernelIdeal.Skeleton

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at a late point: its slot comes busy with the point's block and leaves at rest.
    The labels and the bounds stay as they were, the bins' buffer (at `xo2` before) ends with the returned pieces
    written, the result's buffer stays. -/
noncomputable def runLate (c : Dev nD) (t : Fin cfg0.N) (arg2 : Memref sig .tc .vmem S2000x1 .i32) (harg2 : arg2.IsWhole) (arg3 : Memref sig .tc .vmem S1x11 .f32) (harg3 : arg3.IsWhole) (arg4 : Memref sig .tc .vmem S3x10 .f32) (harg4 : arg4.IsWhole) (arg5 : Memref sig .tc .vmem S1x1 .f32) (harg5 : arg5.IsWhole)
    (hc0 : ¬Begins t) (hc1 : ¬Starts t) (hc2 : ¬Ends t)
    (x0 : Vec F S2000x1 .i32) (x1 : Vec F S1x11 .f32) (xo2 : Vec F S3x10 .f32) (X : Cont (F := F) c logits) :
    { L2 : List (View.Piece (Elt F) S3x10 .f32) //
      ∀ (xi3 : Vec F S1x1 .f32) (W : Waits sig Unit) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3
            ∗ busy c X (Ring.sl 3 t.val) (Ring.bk 50 t.val) ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3
                ∗ atRest c X (Ring.sl 3 t.val) ∗ (∃ W', owes (c : Thread nD τ) 0 W')) -∗ K ⟨⟩))
          ⊢ wp frame (wpE (defs₀ (F := F)) Variants.none c none) Set.univ (cc0__ece_body (grid0.coords t) (Memref.whole main_arg0) (Memref.isWhole_whole _) arg2 harg2 arg3 harg3 arg4 harg4 arg5 harg5 scratch (Memref.isWhole_whole _) cc0_scratch1) K } := by
  refine ⟨?_, fun xi3 W K => ?run⟩
  case run =>
    haveI : Fact (¬k0_cond1 (grid0.coords t) = 1#1) := ⟨hc0⟩
    haveI : Fact (¬k0_cond2 (grid0.coords t) = 1#1) := ⟨hc1⟩
    haveI : Fact (¬k0_cond3 (grid0.coords t) = 1#1) := ⟨hc2⟩
    simp only [cc0__ece_body_eq_skeleton]; unfold cc0__ece_body_skel
    simp only [k0_part1_eq_skeleton, k0_part2_eq_skeleton]
    unfold owns busy atRest
    iintro ⟨⟨%f0, %hf0, H0⟩, ⟨%f1, %hf1, H1⟩, ⟨%f2, %hf2, H2⟩, ⟨%f3, %hf3, H3⟩, ⟨⟨%fa, Hf⟩, Hr⟩, HW, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [Hf Hf_dst Hf_src Hr]
    · isplitl [Hf]; · iexact Hf
      isplitl [Hf_dst]; · iexists _; iexact Hf_dst
      iapply (all_split c X (Ring.sl 3 t.val) (Ring.bk 50 t.val)).2
      isplitl [Hf_src]; · iexact Hf_src
      iexact Hr
    iexists _; iexact HW

end Cert.KernelIdeal.Ece

end
-- ==== Proof.Ideal.RunLast.lean ====
/-
  The body at the last grid point.
-/
module

public import proofs.«01_k».proof.Proof.Ideal.RunLate
public import proofs.«01_k».proof.Proof.Gen.KernelIdeal.Skeleton

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

set_option maxHeartbeats 1000000 in
/-- The body at the last point: its slot comes busy with the point's block and leaves at rest.
    The labels and the bounds stay as they were, the bins' buffer (at `xo2` before) ends with the returned pieces
    written, and so
    does the result's buffer. -/
noncomputable def runLast (c : Dev nD) (t : Fin cfg0.N) (arg2 : Memref sig .tc .vmem S2000x1 .i32) (harg2 : arg2.IsWhole) (arg3 : Memref sig .tc .vmem S1x11 .f32) (harg3 : arg3.IsWhole) (arg4 : Memref sig .tc .vmem S3x10 .f32) (harg4 : arg4.IsWhole) (arg5 : Memref sig .tc .vmem S1x1 .f32) (harg5 : arg5.IsWhole)
    (hc0 : ¬Begins t) (hc1 : ¬Starts t) (hc2 : Ends t)
    (x0 : Vec F S2000x1 .i32) (x1 : Vec F S1x11 .f32) (xo2 : Vec F S3x10 .f32) (X : Cont (F := F) c logits) :
    Σ' (L2 : List (View.Piece (Elt F) S3x10 .f32)), { L3 : List (View.Piece (Elt F) S1x1 .f32) //
      ∀ (W : Waits sig Unit) (K : PUnit → sProp 𝕄),
        iprop(owns (c : Thread nD τ) arg2 fullShare x0 ∗ owns (c : Thread nD τ) arg3 fullShare x1 ∗ owns (c : Thread nD τ) arg4 fullShare xo2 ∗ (∃ d, owns (c : Thread nD τ) arg5 fullShare d)
            ∗ busy c X (Ring.sl 3 t.val) (Ring.bk 50 t.val) ∗ owes (c : Thread nD τ) 0 W
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3)
                ∗ atRest c X (Ring.sl 3 t.val) ∗ (∃ W', owes (c : Thread nD τ) 0 W')) -∗ K ⟨⟩))
          ⊢ wp frame (wpE (defs₀ (F := F)) Variants.none c none) Set.univ (cc0__ece_body (grid0.coords t) (Memref.whole main_arg0) (Memref.isWhole_whole _) arg2 harg2 arg3 harg3 arg4 harg4 arg5 harg5 scratch (Memref.isWhole_whole _) cc0_scratch1) K } := by
  refine ⟨?_, ?_, fun W K => ?run⟩
  case run =>
    haveI : Fact (¬k0_cond1 (grid0.coords t) = 1#1) := ⟨hc0⟩
    haveI : Fact (¬k0_cond2 (grid0.coords t) = 1#1) := ⟨hc1⟩
    haveI : Fact (k0_cond3 (grid0.coords t) = 1#1) := ⟨hc2⟩
    simp only [cc0__ece_body_eq_skeleton]; unfold cc0__ece_body_skel
    simp only [k0_part1_eq_skeleton, k0_part2_eq_skeleton]
    unfold owns busy atRest
    iintro ⟨⟨%f0, %hf0, H0⟩, ⟨%f1, %hf1, H1⟩, ⟨%f2, %hf2, H2⟩, ⟨%d3, %f3, -, H3⟩, ⟨⟨%fa, Hf⟩, Hr⟩, HW, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [Hf Hf_dst Hf_src Hr]
    · isplitl [Hf]; · iexact Hf
      isplitl [Hf_dst]; · iexists _; iexact Hf_dst
      iapply (all_split c X (Ring.sl 3 t.val) (Ring.bk 50 t.val)).2
      isplitl [Hf_src]; · iexact Hf_src
      iexact Hr
    iexists _; iexact HW

end Cert.KernelIdeal.Ece

end
-- ==== Proof.Ideal.Left.lean ====
/-
  What the bins and the result hold after the body, case by case: `step` of what the bins held, and `result` of the bins.
-/
module

public import proofs.«01_k».proof.Proof.Ideal.Step
public import proofs.«01_k».proof.Proof.Ideal.RunLast
public import Idealize.ShloMosaic.Lib.Pipeline.ReadBack

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD) (t : Fin cfg0.N) (arg2 : Memref sig .tc .vmem S2000x1 .i32) (harg2 : arg2.IsWhole) (arg3 : Memref sig .tc .vmem S1x11 .f32) (harg3 : arg3.IsWhole)
  (arg4 : Memref sig .tc .vmem S3x10 .f32) (harg4 : arg4.IsWhole) (arg5 : Memref sig .tc .vmem S1x1 .f32) (harg5 : arg5.IsWhole)
  (x0 : Vec F S2000x1 .i32) (x1 : Vec F S1x11 .f32) (xo2 : Vec F S3x10 .f32) (X : Cont (F := F) c logits)

/-- The body's loads of the labels, of the bounds and of the bins' rows. -/
theorem load_labels (h : ∀ a, (![0, 0] : Fin 2 → Nat) a + S2000x1.size a ≤ S2000x1.size a) :
    View.readAt (Elt F) arg2.view (Rect.unit (s := S2000x1) ![0, 0] S2000x1.size h).toLoadRect (harg2.unread x0) = x0 := by
  rw [View.readAt_eq_ld, harg2.read_unread]
  exact View.ld_unit_zero (by decide) _ _
/-- The body's load of the lower bounds, -/
theorem load_lows (h : ∀ a, (![0, 0] : Fin 2 → Nat) a + S1x10.size a ≤ S1x11.size a) :
    View.readAt (Elt F) arg3.view (Rect.unit (s := S1x11) ![0, 0] S1x10.size h).toLoadRect (harg3.unread x1) = lows x1 := by
  rw [View.readAt_eq_ld, harg3.read_unread]; rfl
/-- of the upper bounds, -/
theorem load_highs (h : ∀ a, (![0, 1] : Fin 2 → Nat) a + S1x10.size a ≤ S1x11.size a) :
    View.readAt (Elt F) arg3.view (Rect.unit (s := S1x11) ![0, 1] S1x10.size h).toLoadRect (harg3.unread x1) = highs x1 := by
  rw [View.readAt_eq_ld, harg3.read_unread]; rfl
/-- and of a row of the bins. -/
theorem load_row (r : Rect S3x10) : View.readAt (Elt F) arg4.view r.toLoadRect (harg4.unread xo2) = View.ld xo2 r := by
  rw [View.readAt_eq_ld, harg4.read_unread]

/-- The rows a middle point stores. -/
theorem pieces_middle (hc0 : ¬Begins t) (hc1 : Starts t) (hc2 : ¬Ends t) (hne : Ring.bk 50 t.val ≠ Ring.bk 50 (t.val + 3)) :
    (runMiddle c t arg2 harg2 arg3 harg3 arg4 harg4 arg5 harg5 hc0 hc1 hc2 hne x0 x1 xo2 X).1
      = pieces x0 x1 (tile c X (Ring.bk 50 t.val)) (View.ld xo2 row0) (View.ld xo2 row1) (View.ld xo2 row2) := by
  have h14 : runMiddle.sl.v14 c t X = tile c X (Ring.bk 50 t.val) := load_landed c t X _ _ _
  have h61 : runMiddle.sl.v61 c arg4 harg4 xo2 = View.ld xo2 row1 := load_row arg4 harg4 xo2 row1
  have h69 : runMiddle.sl.v69 c arg4 harg4 xo2 = View.ld xo2 row2 := load_row arg4 harg4 xo2 row2
  dsimp only [runMiddle]
  simp only [runMiddle.sl.r, runMiddle.sl.r_1, runMiddle.sl.r_2, runMiddle.sl.r_3, runMiddle.sl.r_4, runMiddle.sl.r_5, h14, h61, h69]
  rw [load_labels, load_lows, load_highs, load_row arg4 harg4 xo2 row0]
  rfl

/-- The rows a late point stores. -/
theorem pieces_late (hc0 : ¬Begins t) (hc1 : ¬Starts t) (hc2 : ¬Ends t) :
    (runLate c t arg2 harg2 arg3 harg3 arg4 harg4 arg5 harg5 hc0 hc1 hc2 x0 x1 xo2 X).1
      = pieces x0 x1 (tile c X (Ring.bk 50 t.val)) (View.ld xo2 row0) (View.ld xo2 row1) (View.ld xo2 row2) := by
  have h14 : runLate.sl.v14 c t X = tile c X (Ring.bk 50 t.val) := load_landed c t X _ _ _
  have h61 : runLate.sl.v61 c arg4 harg4 xo2 = View.ld xo2 row1 := load_row arg4 harg4 xo2 row1
  have h69 : runLate.sl.v69 c arg4 harg4 xo2 = View.ld xo2 row2 := load_row arg4 harg4 xo2 row2
  dsimp only [runLate]
  simp only [runLate.sl.r, runLate.sl.r_1, runLate.sl.r_2, runLate.sl.r_3, runLate.sl.r_4, runLate.sl.r_5, h14, h61, h69]
  rw [load_labels, load_lows, load_highs, load_row arg4 harg4 xo2 row0]
  rfl

/-- The rows the last point stores. -/
theorem pieces_last (hc0 : ¬Begins t) (hc1 : ¬Starts t) (hc2 : Ends t) :
    (runLast c t arg2 harg2 arg3 harg3 arg4 harg4 arg5 harg5 hc0 hc1 hc2 x0 x1 xo2 X).1
      = pieces x0 x1 (tile c X (Ring.bk 50 t.val)) (View.ld xo2 row0) (View.ld xo2 row1) (View.ld xo2 row2) := by
  have h14 : runLast.sl.v14 c t X = tile c X (Ring.bk 50 t.val) := load_landed c t X _ _ _
  have h61 : runLast.sl.v61 c arg4 harg4 xo2 = View.ld xo2 row1 := load_row arg4 harg4 xo2 row1
  have h69 : runLast.sl.v69 c arg4 harg4 xo2 = View.ld xo2 row2 := load_row arg4 harg4 xo2 row2
  dsimp only [runLast]
  simp only [runLast.sl.H2_3, runLast.sl.r, runLast.sl.r_1, runLast.sl.r_2, runLast.sl.r_3, runLast.sl.r_4, runLast.sl.r_5, h14, h61, h69]
  rw [load_labels, load_lows, load_highs, load_row arg4 harg4 xo2 row0]
  rfl

/-- What the last point stores as the result: `result` of the bins it leaves. -/
theorem result_last (hc0 : ¬Begins t) (hc1 : ¬Starts t) (hc2 : Ends t) (f : arg5.view.ty.Contents (Elt F)) :
    arg5.view.read (Elt F) (arg5.view.writes (Elt F) f (runLast c t arg2 harg2 arg3 harg3 arg4 harg4 arg5 harg5 hc0 hc1 hc2 x0 x1 xo2 X).2.1)
      = result (step x0 x1 (tile c X (Ring.bk 50 t.val)) xo2) := by
  have hp := pieces_last c t arg2 harg2 arg3 harg3 arg4 harg4 arg5 harg5 x0 x1 xo2 X hc0 hc1 hc2
  dsimp only [runLast] at hp ⊢
  have hrow : ∀ r : Rect S3x10, arg4.view.readCov (runLast.sl.H2_3 c t arg2 harg2 arg3 harg3 arg4 harg4 x0 x1 xo2 X) r.toLoadRect
      = View.ld (step x0 x1 (tile c X (Ring.bk 50 t.val)) xo2) r := fun r => by
    rw [hp]; exact View.readCov_eq_canon_ld _ _ _ (pieces_cover _ _ _ _ _ _)
  have h80 := hrow row0
  have h82 := hrow row1
  have h84 := hrow row2
  rw [View.read_writes_eq_canon _ _ _ fun y => View.cover_of_tiledL _ S1x1.size (by sl_kernel_rfl) y,
    View.canon_cons_unit_zero (by decide)]
  exact congr (congr (congrArg k0_pay2 h80) h82) h84

/-- The rows the first point stores over the cleared bins. -/
theorem pieces_first (hc0 : Begins t) (hc1 : Starts t) (hc2 : ¬Ends t) (hne : Ring.bk 50 t.val ≠ Ring.bk 50 (t.val + 3)) :
    (runFirst c t arg2 harg2 arg3 harg3 arg4 harg4 arg5 harg5 hc0 hc1 hc2 hne x0 x1 X).1
      = pieces x0 x1 (tile c X (Ring.bk 50 t.val)) (View.ld k0_pay3 row0) (View.ld k0_pay3 row1) (View.ld k0_pay3 row2)
        ++ [⟨Rect.unit (s := S3x10) ![0, 0] S3x10.size inb_S3x10_S3x10_0_0, k0_pay3⟩] := by
  have h14 : runFirst.sl.v14 c t X = tile c X (Ring.bk 50 t.val) := load_landed c t X _ _ _
  dsimp only [runFirst]
  simp only [runFirst.sl.H2_3, runFirst.sl.H2_2, runFirst.sl.H2_1, runFirst.sl.r, runFirst.sl.r_1, runFirst.sl.r_2, runFirst.sl.r_3, runFirst.sl.r_4, runFirst.sl.r_5, h14]
  have h55 : runFirst.sl.v55 c arg4 = View.ld (k0_pay3 (F := F)) row0 :=
    View.readCov_fill (Val := Elt F) arg4.view inb_S3x10_S3x10_0_0 k0_pay3 [] row0 (by decide)
  have h61 : runFirst.sl.v61 c t arg3 harg3 arg4 x1 X = View.ld (k0_pay3 (F := F)) row1 :=
    (View.readCov_skip arg4.view row0 _ _ row1.toLoadRect (by decide)).trans (View.readCov_fill (Val := Elt F) arg4.view inb_S3x10_S3x10_0_0 k0_pay3 [] row1 (by decide))
  have h69 : runFirst.sl.v69 c t arg2 harg2 arg3 harg3 arg4 x0 x1 X = View.ld (k0_pay3 (F := F)) row2 :=
    (View.readCov_skip arg4.view row1 _ _ row2.toLoadRect (by decide)).trans
      ((View.readCov_skip arg4.view row0 _ _ row2.toLoadRect (by decide)).trans (View.readCov_fill (Val := Elt F) arg4.view inb_S3x10_S3x10_0_0 k0_pay3 [] row2 (by decide)))
  simp only [h55, h61, h69]
  rw [load_labels, load_lows, load_highs]
  rfl

/-- Stored over whatever was there, the rows leave the bins at `step`. -/
theorem read_pieces (f : arg4.view.ty.Contents (Elt F)) (v : Vec F S1x2000x1000 .f32) :
    arg4.view.read (Elt F) (arg4.view.writes (Elt F) f (pieces x0 x1 v (View.ld xo2 row0) (View.ld xo2 row1) (View.ld xo2 row2))) = step x0 x1 v xo2 :=
  View.read_writes_eq_canon _ _ _ (pieces_cover _ _ _ _ _ _)

end Cert.KernelIdeal.Ece

end
-- ==== Proof.Ideal.Dats.lean ====
/-
  The proof data of the pipeline: what each staging buffer holds after each point, and what is held between points.
-/
module

public import proofs.«01_k».proof.Proof.Ideal.Left

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-- The bins after grid point `n`: cleared before point 0, then one `step` per point. -/
def bins (c : Dev nD) : (n : ℕ) → n < cfg0.N → Vec F S3x10 .f32
  | 0, h => step (iblk m c 0 ⟨0, h⟩) (iblk m c 1 ⟨0, h⟩) (tile c (V m c main_arg0) (Ring.bk 50 0)) k0_pay3
  | n + 1, h => step (iblk m c 0 ⟨n + 1, h⟩) (iblk m c 1 ⟨n + 1, h⟩) (tile c (V m c main_arg0) (Ring.bk 50 (n + 1)))
      (bins c n (Nat.lt_of_succ_lt h))

/-- The bins after the first point, -/
theorem bins_first (c : Dev nD) (t : Fin cfg0.N) (h : t.val = 0) :
    bins m c t.val t.isLt = step (iblk m c 0 t) (iblk m c 1 t) (tile c (V m c main_arg0) (Ring.bk 50 t.val)) k0_pay3 := by
  obtain ⟨n, hn⟩ := t
  obtain rfl : n = 0 := h
  rfl
/-- and after a later one. -/
theorem bins_later (c : Dev nD) (t : Fin cfg0.N) (h : t.val ≠ 0) :
    bins m c t.val t.isLt = step (iblk m c 0 t) (iblk m c 1 t) (tile c (V m c main_arg0) (Ring.bk 50 t.val))
      (bins m c (t.val - 1) (Nat.lt_of_le_of_lt (Nat.sub_le _ _) t.isLt)) := by
  obtain ⟨n, hn⟩ := t
  obtain ⟨k, rfl⟩ := Nat.exists_eq_succ_of_ne_zero h
  rfl

/-- The arrays as the region finds them; after point `t` the inputs' buffers at their blocks, the bins' buffer at the
    bins, the result's at `result` of the bins; between points the generator register and the three slots. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => bins m c t.val t.isLt
    | ⟨3, _⟩ => result (bins m c t.val t.isLt)
  Φ t := iprop((∃ r, prngReg c r) ∗ ring c (V m c main_arg0) t.val)
  q _ := fullShare
  owed _ := 0

/-- Each window's array is, before the first point, what the host operations left. -/
theorem dats_array (c : Dev nD) (w : Fin cfg0.W) : (dats m 0 c).A w = V m c (Pipeline.arrRef spec0 w) := by
  dsimp only [dats]
/-- What is held before a point: the generator register and the three slots, -/
theorem dats_before (c : Dev nD) (t : Fin cfg0.N) :
    (dats m 0 c).Φ t.castSucc = iprop((∃ r, prngReg c r) ∗ ring c (V m c main_arg0) t.val) := by
  dsimp only [dats]; simp only [Fin.val_castSucc]
/-- and what is held after it: the same, one point on. -/
theorem dats_after (c : Dev nD) (t : Fin cfg0.N) :
    (dats m 0 c).Φ t.succ = iprop((∃ r, prngReg c r) ∗ ring c (V m c main_arg0) (t.val + 1)) := by
  dsimp only [dats]; simp only [Fin.val_succ]

/-- After a point, the labels' buffer still holds the point's labels, -/
theorem after_labels (c : Dev nD) (t : Fin cfg0.N) : (dats m 0 c).after 0 t = iblk m c 0 t := by dsimp only [dats]
/-- the bounds' buffer the bounds, -/
theorem after_bounds (c : Dev nD) (t : Fin cfg0.N) : (dats m 0 c).after 1 t = iblk m c 1 t := by dsimp only [dats]
/-- the bins' buffer the bins so far, -/
theorem after_bins (c : Dev nD) (t : Fin cfg0.N) : (dats m 0 c).after 2 t = bins m c t.val t.isLt := by dsimp only [dats]
/-- and the result's buffer, once written, the result of the bins. -/
theorem after_result (c : Dev nD) (t : Fin cfg0.N) : (dats m 0 c).after 3 t = result (bins m c t.val t.isLt) := by dsimp only [dats]

/-- The body finds the labels' block, -/
theorem before_labels (c : Dev nD) (t : Fin cfg0.N) (d) : (dats m 0 c).before 0 t d = iblk m c 0 t :=
  ((dats m 0 c).before_in_eq_fetched 0 rfl (fun _ => rfl) (fun _ _ _ => rfl)
    (fun t => by rw [after_labels]; unfold Dat.blockOf iblk; rw [dats_array]; try rfl) t d).trans
    (by unfold Dat.fetched Dat.blockOf iblk; rw [dats_array]; try rfl)
/-- the bounds, -/
theorem before_bounds (c : Dev nD) (t : Fin cfg0.N) (d) : (dats m 0 c).before 1 t d = iblk m c 1 t :=
  ((dats m 0 c).before_in_eq_fetched 1 rfl (fun _ => rfl) (fun _ _ _ => rfl)
    (fun t => by rw [after_bounds]; unfold Dat.blockOf iblk; rw [dats_array]; try rfl) t d).trans
    (by unfold Dat.fetched Dat.blockOf iblk; rw [dats_array]; try rfl)
/-- and, after the first point, the bins as the point before left them. -/
theorem before_bins (c : Dev nD) (t : Fin cfg0.N) (h : t.val ≠ 0) (d) :
    (dats m 0 c).before 2 t d = bins m c (t.val - 1) (Nat.lt_of_le_of_lt (Nat.sub_le _ _) t.isLt) := by
  have hN : t.val < 50 := lt_of_lt_of_eq t.isLt (show cfg0.N = 50 from N_0)
  rw [Dat.before_out_kept _ 2 rfl t (by omega) (Bool.eq_false_iff.mpr fun h => by have := (flush0_2 _).mp h; dsimp only at this; omega)
    (fun _ => rfl) (fun _ _ => rfl)]
  dsimp only [dats]

/-! ## Which outputs a point stores into -/

/-- Every point uses the labels' buffer, -/
theorem live_labels (t : Fin cfg0.N) : cfg0.idle 0 (grid0.coords t) = false := rfl
/-- the bounds' buffer -/
theorem live_bounds (t : Fin cfg0.N) : cfg0.idle 1 (grid0.coords t) = false := rfl
/-- and the bins' buffer. -/
theorem live_bins (t : Fin cfg0.N) : cfg0.idle 2 (grid0.coords t) = false := rfl
/-- The result's buffer is stored into at the last point only. -/
theorem live_result : ∀ t : Fin cfg0.N, t.val = 49 → cfg0.idle 3 (grid0.coords t) = false :=
  (by decide +kernel : ∀ t : Fin grid0.N, t.val = 49 → cfg0.idle 3 (grid0.coords t) = false)
/-- Every other point leaves the result's buffer alone, -/
theorem idle_result : ∀ t : Fin cfg0.N, t.val ≠ 49 → cfg0.idle 3 (grid0.coords t) = true :=
  (by decide +kernel : ∀ t : Fin grid0.N, t.val ≠ 49 → cfg0.idle 3 (grid0.coords t) = true)
/-- and writes nothing of it back. -/
theorem kept_result (t : Fin cfg0.N) (h : t.val ≠ 49) : (cfg0.win 3).flush t = false := by
  have hN : t.val < 50 := lt_of_lt_of_eq t.isLt (show cfg0.N = 50 from N_0)
  exact Bool.eq_false_iff.mpr fun h' => by have := (flush0_3 t).mp h'; omega

/-- What the body leaves in each staging buffer. -/
theorem leaves_labels (c : Dev nD) (t : Fin cfg0.N) :
    (dats m 0 c).leavesExact 0 t = owns (c : Thread nD τ) (st0_0 t) fullShare (iblk m c 0 t) := by
  unfold Dat.leavesExact; rw [live_labels t, after_labels]
/-- A point leaves the bounds in their buffer, -/
theorem leaves_bounds (c : Dev nD) (t : Fin cfg0.N) :
    (dats m 0 c).leavesExact 1 t = owns (c : Thread nD τ) (st0_1 t) fullShare (iblk m c 1 t) := by
  unfold Dat.leavesExact; rw [live_bounds t, after_bounds]
/-- the bins so far in theirs, -/
theorem leaves_bins (c : Dev nD) (t : Fin cfg0.N) :
    (dats m 0 c).leavesExact 2 t = owns (c : Thread nD τ) (st0_2 t) fullShare (bins m c t.val t.isLt) := by
  unfold Dat.leavesExact; rw [live_bins t, after_bins]
/-- and the last point the result in its own. -/
theorem leaves_result (c : Dev nD) (t : Fin cfg0.N) (h : t.val = 49) :
    (dats m 0 c).leavesExact 3 t = owns (c : Thread nD τ) (st0_3 t) fullShare (result (bins m c t.val t.isLt)) := by
  unfold Dat.leavesExact; rw [live_result t h, after_result]

/-! ## The slots, point by point -/

section Slots
variable (c : Dev nD) (X : Cont (F := F) c logits)

/-- Three points later the slot is the same. -/
theorem same_slot (k : ℕ) : Ring.sl 3 (k + 3) = Ring.sl 3 k := Fin.ext (Nat.add_mod_right k 3)
/-- Before a point after the first, its own slot is busy with its block. -/
theorem ring_here (k : ℕ) (h0 : 0 < k) (h : k < 50) :
    ring c X k = iprop(busy c X (Ring.sl 3 k) (Ring.bk 50 k) ∗ piece c X k 1 ∗ piece c X k 2) := by
  unfold ring; rw [piece_busy c X k 0 h0 (by omega)]; rfl
/-- After it the slot is busy with the block three later, -/
theorem ring_next (k : ℕ) (h0 : 0 < k) (h : k + 3 < 50) :
    ring c X (k + 1) = iprop(piece c X k 1 ∗ piece c X k 2 ∗ busy c X (Ring.sl 3 k) (Ring.bk 50 (k + 3))) := by
  unfold ring
  rw [piece_succ c X k 0 h0, piece_succ c X k 1 h0, piece_succ c X k 2 h0, piece_busy c X k 3 h0 h, same_slot]
/-- or at rest, if there is no such block. -/
theorem ring_late (k : ℕ) (h0 : 0 < k) (h : 50 ≤ k + 3) :
    ring c X (k + 1) = iprop(piece c X k 1 ∗ piece c X k 2 ∗ atRest c X (Ring.sl 3 k)) := by
  unfold ring
  rw [piece_succ c X k 0 h0, piece_succ c X k 1 h0, piece_succ c X k 2 h0, piece_late c X k 3 h, same_slot]
/-- Before the first point the three slots are at rest, -/
theorem ring_first (k : ℕ) (h : k = 0) :
    ring c X k = iprop(atRest c X (Ring.sl 3 k) ∗ atRest c X (Ring.sl 3 (k + 1)) ∗ atRest c X (Ring.sl 3 (k + 2))) := by
  subst h; unfold ring; rw [piece_zero, piece_zero, piece_zero]
/-- and after it busy with blocks 1, 2 and 3. -/
theorem ring_second (k : ℕ) (h : k = 0) :
    ring c X (k + 1) = iprop(busy c X (Ring.sl 3 (k + 1)) (Ring.bk 50 (k + 1)) ∗ busy c X (Ring.sl 3 (k + 2)) (Ring.bk 50 (k + 2))
      ∗ busy c X (Ring.sl 3 k) (Ring.bk 50 (k + 3))) := by
  subst h; unfold ring
  rw [piece_busy c X 1 0 (by omega) (by omega), piece_busy c X 1 1 (by omega) (by omega), piece_busy c X 1 2 (by omega) (by omega)]
  rfl

end Slots

/-- The first point's stores, over the cleared bins. -/
theorem read_first {arg4 : Memref sig .tc .vmem S3x10 .f32} (x0 : Vec F S2000x1 .i32) (x1 : Vec F S1x11 .f32) (v : Vec F S1x2000x1000 .f32) (xo2 : Vec F S3x10 .f32)
    (f : arg4.view.ty.Contents (Elt F)) (q : View.Piece (Elt F) S3x10 .f32) :
    arg4.view.read (Elt F) (arg4.view.writes (Elt F) f (pieces x0 x1 v (View.ld xo2 row0) (View.ld xo2 row1) (View.ld xo2 row2) ++ [q])) = step x0 x1 v xo2 := by
  rw [View.writes_append]
  exact View.read_writes_eq_canon _ _ _ (pieces_cover _ _ _ _ _ _)

end Cert.KernelIdeal.Ece

end
-- ==== Proof.Ideal.Body.lean ====
/-
  The body obligation: at every grid point the body takes what is held before the point to what is held after it.
-/
module

public import proofs.«01_k».proof.Proof.Ideal.Dats

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-- What the body is called with at point `t`, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it leaves. -/
def left (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- Blocks three apart are different blocks. -/
theorem three_on (k : ℕ) (h : k + 3 < 50) : Ring.bk 50 k ≠ Ring.bk 50 (k + 3) := fun e => by
  have hv : k % 50 = (k + 3) % 50 := congrArg Fin.val e
  omega

set_option maxHeartbeats 1600000 in
/-- The first point: bins cleared, four blocks started. -/
theorem body_first (c : Dev nD) (t : Fin cfg0.N) (h : t.val = 0) :
    given m c t ⊢ wp frame (wpE (defs₀ (F := F)) Variants.none c none) Set.univ (bodyAt0 t) (fun _ => left m c t) := by
  have hN : t.val < 50 := lt_of_lt_of_eq t.isLt (show cfg0.N = 50 from N_0)
  have hb : Begins t := (begins_iff t).mpr h
  have hs : Starts t := (starts_iff t).mpr (by omega)
  have he : ¬Ends t := fun e => by have := (ends_iff t).mp e; omega
  have hn := three_on t.val (by omega)
  unfold given left bodyAt0
  simp only [before_labels, before_bounds]
  rw [dats_before, dats_after]
  unfold Dat.owesAt Pipeline.owesWithin
  rw [show (dats m 0 c).owed t.castSucc = 0 from rfl, show (dats m 0 c).owed t.succ = 0 from rfl,
    ring_first c _ t.val h, ring_second c _ t.val h, leaves_labels, leaves_bounds, leaves_bins, Dat.leavesExact_idle (dats m 0 c) 3 t (idle_result t (by omega)) (kept_result t (by omega))]
  iintro ⟨⟨Hg, Ha, Hb, Hd⟩, ⟨%W, -, HW⟩, ⟨%d0, H0⟩, ⟨%d1, H1⟩, ⟨%d2, H2⟩, ⟨%d3, H3⟩⟩
  iapply ((runFirst c t _ _ _ _ _ _ _ _ hb hs he hn (iblk m c 0 t) (iblk m c 1 t) (V m c main_arg0)).2 _ W _)
  isplitl [H0]; · iexact H0
  isplitl [H1]; · iexact H1
  isplitl [H2]; · iexists _; iexact H2
  isplitl [H3]; · iexact H3
  isplitl [Ha]; · iexact Ha
  isplitl [Hb]; · iexact Hb
  isplitl [Hd]; · iexact Hd
  isplitl [HW]; · iexact HW
  iintro ⟨H0, H1, ⟨%e2, H2⟩, H3, Ha, Hb, Hd, ⟨%W', HW'⟩⟩
  isplitl [Hg Ha Hb Hd]
  · isplitl [Hg]; · iexact Hg
    isplitl [Ha]; · iexact Ha
    isplitl [Hb]; · iexact Hb
    iexact Hd
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    rw [pieces_first, bins_first m c t h]
    exact read_first _ _ _ _ _ _
  iexists _; iexact H3

set_option maxHeartbeats 1600000 in
/-- A point that starts a block. -/
theorem body_middle (c : Dev nD) (t : Fin cfg0.N) (h : t.val ≠ 0) (hk : t.val + 3 < 50) :
    given m c t ⊢ wp frame (wpE (defs₀ (F := F)) Variants.none c none) Set.univ (bodyAt0 t) (fun _ => left m c t) := by
  have hN : t.val < 50 := lt_of_lt_of_eq t.isLt (show cfg0.N = 50 from N_0)
  have hb : ¬Begins t := fun e => h ((begins_iff t).mp e)
  have hs : Starts t := (starts_iff t).mpr hk
  have he : ¬Ends t := fun e => by have := (ends_iff t).mp e; omega
  have hn := three_on t.val hk
  unfold given left bodyAt0
  simp only [before_labels, before_bounds, before_bins m c t h]
  rw [dats_before, dats_after]
  unfold Dat.owesAt Pipeline.owesWithin
  rw [show (dats m 0 c).owed t.castSucc = 0 from rfl, show (dats m 0 c).owed t.succ = 0 from rfl,
    ring_here c _ t.val (by omega) hN, ring_next c _ t.val (by omega) hk, leaves_labels, leaves_bounds, leaves_bins, Dat.leavesExact_idle (dats m 0 c) 3 t (idle_result t (by omega)) (kept_result t (by omega))]
  iintro ⟨⟨Hg, Ha, Hb, Hd⟩, ⟨%W, -, HW⟩, ⟨%d0, H0⟩, ⟨%d1, H1⟩, ⟨%d2, H2⟩, ⟨%d3, H3⟩⟩
  iapply ((runMiddle c t _ _ _ _ _ _ _ _ hb hs he hn (iblk m c 0 t) (iblk m c 1 t) _ (V m c main_arg0)).2 _ W _)
  isplitl [H0]; · iexact H0
  isplitl [H1]; · iexact H1
  isplitl [H2]; · iexact H2
  isplitl [H3]; · iexact H3
  isplitl [Ha]; · iexact Ha
  isplitl [HW]; · iexact HW
  iintro ⟨H0, H1, ⟨%e2, H2⟩, H3, Ha, ⟨%W', HW'⟩⟩
  isplitl [Hg Ha Hb Hd]
  · isplitl [Hg]; · iexact Hg
    isplitl [Hb]; · iexact Hb
    isplitl [Hd]; · iexact Hd
    iexact Ha
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    rw [pieces_middle, bins_later m c t h]
    exact read_pieces _ _ _ _ _ _
  iexists _; iexact H3

set_option maxHeartbeats 1600000 in
/-- A point with no block left to start. -/
theorem body_late (c : Dev nD) (t : Fin cfg0.N) (h : t.val ≠ 0) (hk : ¬t.val + 3 < 50) (hl : t.val ≠ 49) :
    given m c t ⊢ wp frame (wpE (defs₀ (F := F)) Variants.none c none) Set.univ (bodyAt0 t) (fun _ => left m c t) := by
  have hN : t.val < 50 := lt_of_lt_of_eq t.isLt (show cfg0.N = 50 from N_0)
  have hb : ¬Begins t := fun e => h ((begins_iff t).mp e)
  have hs : ¬Starts t := fun e => by have := (starts_iff t).mp e; omega
  have he : ¬Ends t := fun e => by have := (ends_iff t).mp e; omega
  unfold given left bodyAt0
  simp only [before_labels, before_bounds, before_bins m c t h]
  rw [dats_before, dats_after]
  unfold Dat.owesAt Pipeline.owesWithin
  rw [show (dats m 0 c).owed t.castSucc = 0 from rfl, show (dats m 0 c).owed t.succ = 0 from rfl,
    ring_here c _ t.val (by omega) hN, ring_late c _ t.val (by omega) (by omega), leaves_labels, leaves_bounds, leaves_bins, Dat.leavesExact_idle (dats m 0 c) 3 t (idle_result t (by omega)) (kept_result t (by omega))]
  iintro ⟨⟨Hg, Ha, Hb, Hd⟩, ⟨%W, -, HW⟩, ⟨%d0, H0⟩, ⟨%d1, H1⟩, ⟨%d2, H2⟩, ⟨%d3, H3⟩⟩
  iapply ((runLate c t _ _ _ _ _ _ _ _ hb hs he (iblk m c 0 t) (iblk m c 1 t) _ (V m c main_arg0)).2 _ W _)
  isplitl [H0]; · iexact H0
  isplitl [H1]; · iexact H1
  isplitl [H2]; · iexact H2
  isplitl [H3]; · iexact H3
  isplitl [Ha]; · iexact Ha
  isplitl [HW]; · iexact HW
  iintro ⟨H0, H1, ⟨%e2, H2⟩, H3, Ha, ⟨%W', HW'⟩⟩
  isplitl [Hg Ha Hb Hd]
  · isplitl [Hg]; · iexact Hg
    isplitl [Hb]; · iexact Hb
    isplitl [Hd]; · iexact Hd
    iexact Ha
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    rw [pieces_late, bins_later m c t h]
    exact read_pieces _ _ _ _ _ _
  iexists _; iexact H3

set_option maxHeartbeats 1600000 in
/-- The last point: the result is stored. -/
theorem body_last (c : Dev nD) (t : Fin cfg0.N) (hl : t.val = 49) :
    given m c t ⊢ wp frame (wpE (defs₀ (F := F)) Variants.none c none) Set.univ (bodyAt0 t) (fun _ => left m c t) := by
  have hN : t.val < 50 := lt_of_lt_of_eq t.isLt (show cfg0.N = 50 from N_0)
  have h : t.val ≠ 0 := by omega
  have hb : ¬Begins t := fun e => h ((begins_iff t).mp e)
  have hs : ¬Starts t := fun e => by have := (starts_iff t).mp e; omega
  have he : Ends t := (ends_iff t).mpr hl
  unfold given left bodyAt0
  simp only [before_labels, before_bounds, before_bins m c t h]
  rw [dats_before, dats_after]
  unfold Dat.owesAt Pipeline.owesWithin
  rw [show (dats m 0 c).owed t.castSucc = 0 from rfl, show (dats m 0 c).owed t.succ = 0 from rfl,
    ring_here c _ t.val (by omega) hN, ring_late c _ t.val (by omega) (by omega), leaves_labels, leaves_bounds, leaves_bins, leaves_result m c t hl]
  iintro ⟨⟨Hg, Ha, Hb, Hd⟩, ⟨%W, -, HW⟩, ⟨%d0, H0⟩, ⟨%d1, H1⟩, ⟨%d2, H2⟩, ⟨%d3, H3⟩⟩
  iapply ((runLast c t _ _ _ _ _ _ _ _ hb hs he (iblk m c 0 t) (iblk m c 1 t) _ (V m c main_arg0)).2.2 W _)
  isplitl [H0]; · iexact H0
  isplitl [H1]; · iexact H1
  isplitl [H2]; · iexact H2
  isplitl [H3]; · iexists _; iexact H3
  isplitl [Ha]; · iexact Ha
  isplitl [HW]; · iexact HW
  iintro ⟨H0, H1, ⟨%e2, H2⟩, ⟨%e3, H3⟩, Ha, ⟨%W', HW'⟩⟩
  isplitl [Hg Ha Hb Hd]
  · isplitl [Hg]; · iexact Hg
    isplitl [Hb]; · iexact Hb
    isplitl [Hd]; · iexact Hd
    iexact Ha
  isplitl [HW']
  · iexists W'; isplitr; · ipureintro; exact fun _ _ => Or.inl trivial
    iexact HW'
  isplitl [H0]; · iexact H0
  isplitl [H1]; · iexact H1
  isplitl [H2]
  · unfold owns; iexists _; isplitr
    swap; · iexact H2
    ipureintro
    rw [pieces_last, bins_later m c t h]
    exact read_pieces _ _ _ _ _ _
  unfold owns; iexists _; isplitr
  swap; · iexact H3
  ipureintro
  rw [bins_later m c t h]
  exact result_last _ _ _ _ _ _ _ _ _ _ _ _ _ _ _ _ _ _

/-- The body at any point. -/
theorem body_any (c : Dev nD) (t : Fin cfg0.N) :
    given m c t ⊢ wp frame (wpE (defs₀ (F := F)) Variants.none c none) Set.univ (bodyAt0 t) (fun _ => left m c t) := by
  by_cases h : t.val = 0
  · exact body_first m c t h
  by_cases hk : t.val + 3 < 50
  · exact body_middle m c t h hk
  by_cases hl : t.val = 49
  · exact body_last m c t hl
  · exact body_late m c t h hk hl

/-- The body that the pipeline runs at a point is the generated body at that point. -/
theorem body_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) (defs₀ (F := F)) Variants.none () Set.univ := fun t => by
  rw [bigSep_W0, bigSep_W0, body_row]
  exact triple_restated (body_any m c t) rfl .rfl fun _ => .rfl

end Cert.KernelIdeal.Ece

end
-- ==== Proof.Ideal.Frame.lean ====
/-
  The launch. The kernel's program runs the host operations before the grid, the grid, and the reshape of the result:
  every execution terminates, the arguments end unchanged, every semaphore ends at zero, and the result is `result` of
  the bins after the last point.
-/
module

public import proofs.«01_k».proof.Proof.Ideal.Body
public import Idealize.ShloMosaic.Lib.Claim

@[expose] public section

set_option maxRecDepth 16384

noncomputable section

namespace Cert.KernelIdeal.Ece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## What the kernel moves itself -/

/-- The kernel's own semaphores, -/
abbrev ownSems : Fin 3 → SemLoc sig := fun j => (![SemLoc.dma 5, SemLoc.dma 6, SemLoc.dma 7] : Fin 3 → SemLoc sig) j
/-- they are none of the pipeline's, -/
theorem ownSems_facts : Pipeline.OwnSemFacts spec0 ownSems := by decide
/-- and they are three, listed. -/
theorem ownSems_list (c : Dev nD) :
    (Pipeline.ownSems0 (Ix := Unit) (Name := ℕ) (U := Pipeline.UD sig nD τ) (Lvl := ℕ) (Val := Elt F) (τ := τ) ownSems c : sProp 𝕄)
      = iprop(semVal ((c : Thread nD τ), SemLoc.dma 5) 0 ∗ semVal ((c : Thread nD τ), SemLoc.dma 6) 0 ∗ semVal ((c : Thread nD τ), SemLoc.dma 7) 0) := by
  rw [Pipeline.ownSems0_eq_of_list c ownSems [0, 1, 2] (by decide) (by decide)]; rfl
/-- and the one array it reads by transfers of its own: the logits. -/
def moved : Finset (Ref sig .tc) := {main_arg0}
/-- It is no array of the pipeline. -/
theorem moved_sub : moved ⊆ Pipeline.restRefs sig spec0 := by decide
/-- Listed, it is the whole array of logits. -/
theorem moved_list (c : Dev nD) :
    (bigSep moved (fun b => ((c : Thread nD τ).loc b) ↦{fullShare} V m c b) : sProp 𝕄) = wholePt c logits (V m c main_arg0) := by
  rw [BI.bigSep_eq_bigSepL_of_eq [main_arg0] (by decide) (by decide)]; rfl
/-- What the launch hands over, listed. -/
theorem handed (c : Dev nD) :
    (Pipeline.ΦD ownSems spec0 moved (V m) c : sProp 𝕄)
      = iprop(iprop((∃ d, owns (c : Thread nD τ) scratch fullShare d)) ∗ (∃ r, prngReg c r)
        ∗ iprop(semVal ((c : Thread nD τ), SemLoc.dma 5) 0 ∗ semVal ((c : Thread nD τ), SemLoc.dma 6) 0 ∗ semVal ((c : Thread nD τ), SemLoc.dma 7) 0)
        ∗ wholePt c logits (V m c main_arg0)) := by
  rw [Pipeline.ΦD_eq, scopedRest0_eq, ownSems_list, moved_list]; simp only [scratch, owns_whole]; try rfl

/-- It is what is held before the first point, -/
theorem enter (c : Dev nD) : Pipeline.ΦD ownSems spec0 moved (V m) c ⊢ (dats m 0 c).Φ 0 := by
  rw [handed, show (dats m 0 c).Φ 0 = iprop((∃ r, prngReg c r) ∗ ring c (V m c main_arg0) 0) from rfl]
  iintro ⟨HS, Hg, Hq, HX⟩
  isplitl [Hg]; · iexact Hg
  iapply (ring_begin (F := F) c (V m c main_arg0))
  unfold idle
  isplitl [HS]; · iexact HS
  isplitl [Hq]; · iexact Hq
  iexact HX
/-- and what is held after the last point hands it back. -/
theorem leave (c : Dev nD) : (dats m 0 c).Φ (Fin.last cfg0.N) ⊢ Pipeline.ΦD ownSems spec0 moved (V m) c := by
  rw [handed, show (dats m 0 c).Φ (Fin.last cfg0.N) = iprop((∃ r, prngReg c r) ∗ ring c (V m c main_arg0) grid0.N) from rfl,
    show grid0.N = 50 by rw [N_0]]
  iintro ⟨Hg, HR⟩
  ihave HI := (ring_end (F := F) c (V m c main_arg0)) $$ HR
  unfold idle
  icases HI with ⟨HS, Hq, HX⟩
  isplitl [HS]; · iexact HS
  isplitl [Hg]; · iexact Hg
  isplitl [Hq]; · iexact Hq
  iexact HX

/-! ## The host operations around the grid -/

set_option maxHeartbeats 800000 in
/-- The program is the host operations, the grid, the reshape of the result. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The reshape touches nothing the kernel moves itself. -/
theorem tail_sub : ∀ ops ∈ ([hostOps1] : List (List (HloOp τ sig (Elt F)))), ∀ op ∈ ops,
    op.bufs ⊆ Pipeline.tailRefsBut sig Pipeline.Prefetch.none spec0 moved := by
  intro ops hops op hop
  obtain rfl := List.mem_singleton.mp hops
  have hs := (List.forall_iff_forall_mem.mp hostOps1_sub) op hop
  refine Pipeline.sub_tailRefsBut _ _ _ op hs (fun k => k.elim0) fun b hb => ?_
  obtain rfl := Finset.mem_singleton.mp hb
  obtain rfl := List.mem_singleton.mp hop
  rw [StableHlo.reshape_bufs]
  simp only [Finset.mem_insert, Finset.mem_singleton, not_or]
  exact ⟨StableHlo.devRef_ne_of_ne (by decide), StableHlo.devRef_ne_of_ne (by decide)⟩

/-! ## The run -/

set_option backward.isDefEq.respectTransparency.types false in
/-- Every execution terminates; every array of the pipeline, every other buffer and every semaphore ends as computed. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 ownSems defs₀ Variants.none ownSems_facts moved moved_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := dats_array m) (hin := enter m) (hout := leave m)

/-- A buffer that neither the grid nor the reshape writes ends as the host operations left it. -/
theorem tail_other (c : Dev nD) (b : Ref sig .tc) (hb : b ≠ main_v4) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (fun op hop => by
      simp only [List.flatten_cons, List.flatten_nil, List.append_nil] at hop
      obtain rfl := List.mem_singleton.mp hop
      rw [StableHlo.reshape_writes, Finset.mem_singleton]
      exact StableHlo.devRef_ne_of_ne hb),
    Pipeline.withArrays_of_ne _ c (V0 m c) _ b hw]

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_arg0 (Pipeline.mem_restRefs_of main_arg0 (by decide) (by decide))).trans ((tail_other m c main_arg0 (by decide) (by decide)).trans (V_main_arg0 m c)),
      ((h.1 c).2 main_arg1 (Pipeline.mem_restRefs_of main_arg1 (by decide) (by decide))).trans ((tail_other m c main_arg1 (by decide) (by decide)).trans (V_main_arg1 m c))⟩)
    (run_all m ρ)

/-- The frame: the arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_all m ρ))

end Cert.KernelIdeal.Ece

end
-- ==== Proof.Bits.lean ====
/-
  The kernel at the bit formats. The ideal program differs from the printed kernel in one named constant; read as its bit
  pattern, the two programs are the same, so the frame of the ideal program is the kernel's frame too.
-/
module

public import proofs.«01_k».proof.Proof.Ideal.Frame
public import proofs.«01_k».proof.Proof.Gen.Kernel
public import proofs.«01_k».proof.Defs

@[expose] public section

set_option maxRecDepth 16384

noncomputable section

namespace Cert.Kernel.Ece

open Cert.Kernel Cert.Kernel.Gen
open Idealize.ShloMosaic Idealize.ShloMosaic.TcCoe Idealize.SL.Sem

/-- At the bit formats a named constant is its bit pattern, which is what the printed kernel writes in its place. -/
local instance namedBits : Named Bits where
  named _ _ {φ} b := Scalar.ofBits φ b

/-- The two programs have the same body, -/
theorem body_same : cc0__ece_body (F := Bits) = Cert.KernelIdeal.cc0__ece_body (F := Bits) := rfl
/-- so the same body table, -/
theorem table_same : defs₀ (F := Bits) = Cert.KernelIdeal.defs₀ (F := Bits) := by
  funext pr ℓ a
  match pr, ℓ, a with
  | .tc, ⟨0, _⟩, (t, s) => exact congrFun (congrFun (congrFun (congrFun (congrFun (congrFun (congrFun (congrFun (congrFun (congrFun (congrFun (congrFun (congrFun (congrFun body_same _) _) _) _) _) _) _) _) _) _) _) _) _) _
  | .scScalar _, ⟨0, _⟩, _ => rfl
  | .scVector _ _, ⟨0, _⟩, _ => rfl
/-- and the same functions. -/
theorem defs_same : defs (F := Bits) = Cert.KernelIdeal.defs (F := Bits) :=
  congrArg (Pipeline.defs Cert.KernelIdeal.pcfgs) table_same

/-- The kernel's frame: every execution terminates, the arguments end as they were, every semaphore at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact Cert.KernelIdeal.Ece.frame (F := Bits) m ρ

end Cert.Kernel.Ece

end
-- ==== Proof.Reads.lean ====
/- How a typed reference is read after one operation of a host program. -/
module

public import Idealize.ShloMosaic.Lib.StableHlo.Run
public import Idealize.ShloMosaic.Lib.Pipeline.Frame

@[expose] public section

set_option maxRecDepth 16384

noncomputable section

namespace Cert.Host

open Idealize.ShloMosaic Idealize.ShloMosaic.TcCoe Idealize.SL.Sem Idealize.ShloMosaic.StableHlo

variable {F : FTy → Type} [FloatOps F] {τ : Topo} {sig : RefSig}

/-- The contents of a typed reference's buffer, at the reference's own type. -/
def reads {T : BufTy} (V : Valuation τ sig (Elt F)) (x : TRef sig T) : T.Contents (Elt F) :=
  x.ofBuf (V (Proc.devRef .tc x.ref))

section Reads

variable {T Tx Ta Tb Tc Te Ty : BufTy}

/-- An operation of no, one, two, three or four operands, at typed references. -/
def op0 (y : TRef sig Ty) (v : Ty.Contents (Elt F)) : HloOp τ sig (Elt F) := TRef.nullary y v
@[inherit_doc op0] def op1 (x : TRef sig Tx) (y : TRef sig Ty) (f : Tx.Contents (Elt F) → Ty.Contents (Elt F)) : HloOp τ sig (Elt F) :=
  TRef.unary x y f
@[inherit_doc op0] def op2 (a : TRef sig Ta) (b : TRef sig Tb) (y : TRef sig Ty)
    (f : Ta.Contents (Elt F) → Tb.Contents (Elt F) → Ty.Contents (Elt F)) : HloOp τ sig (Elt F) := TRef.binary a b y f
@[inherit_doc op0] def op3 (c : TRef sig Tc) (a : TRef sig Ta) (b : TRef sig Tb) (y : TRef sig Ty)
    (f : Tc.Contents (Elt F) → Ta.Contents (Elt F) → Tb.Contents (Elt F) → Ty.Contents (Elt F)) : HloOp τ sig (Elt F) :=
  TRef.ternary c a b y f
@[inherit_doc op0] def op4 (a : TRef sig Ta) (b : TRef sig Tb) (c : TRef sig Tc) (e : TRef sig Te) (y : TRef sig Ty)
    (f : Ta.Contents (Elt F) → Tb.Contents (Elt F) → Tc.Contents (Elt F) → Te.Contents (Elt F) → Ty.Contents (Elt F)) :
    HloOp τ sig (Elt F) := TRef.quaternary a b c e y f

variable (V : Valuation τ sig (Elt F)) (r : TRef sig T) (x : TRef sig Tx) (a : TRef sig Ta)
  (b : TRef sig Tb) (c : TRef sig Tc) (e : TRef sig Te) (y : TRef sig Ty)

/-- After a constant, its buffer reads as the constant. -/
theorem reads_op0 (v : Ty.Contents (Elt F)) : reads ((op0 y v).result V) y = v := by
  unfold reads op0 TRef.nullary
  rw [nullary_result, TRef.ofBuf_toBuf]

/-- After an operation of one operand, its buffer reads as the function of the operand. -/
theorem reads_op1 (f : Tx.Contents (Elt F) → Ty.Contents (Elt F)) :
    reads ((op1 x y f).result V) y = f (reads V x) := by
  unfold reads op1 TRef.unary
  rw [unary_result, TRef.ofBuf_toBuf]

/-- After an operation of two operands, its buffer reads as the function of the operands. -/
theorem reads_op2 (f : Ta.Contents (Elt F) → Tb.Contents (Elt F) → Ty.Contents (Elt F)) :
    reads ((op2 a b y f).result V) y = f (reads V a) (reads V b) := by
  unfold reads op2 TRef.binary
  rw [binary_result, TRef.ofBuf_toBuf]

/-- After an operation of three operands, its buffer reads as the function of the operands. -/
theorem reads_op3 (f : Tc.Contents (Elt F) → Ta.Contents (Elt F) → Tb.Contents (Elt F) → Ty.Contents (Elt F)) :
    reads ((op3 c a b y f).result V) y = f (reads V c) (reads V a) (reads V b) := by
  unfold reads op3 TRef.ternary
  rw [ternary_result, TRef.ofBuf_toBuf]

/-- After an operation of four operands, its buffer reads as the function of the operands. -/
theorem reads_op4 (f : Ta.Contents (Elt F) → Tb.Contents (Elt F) → Tc.Contents (Elt F) → Te.Contents (Elt F) → Ty.Contents (Elt F)) :
    reads ((op4 a b c e y f).result V) y = f (reads V a) (reads V b) (reads V c) (reads V e) := by
  unfold reads op4 TRef.quaternary
  rw [quaternary_result, TRef.ofBuf_toBuf]

variable {V r x a b c e y} (h : r.ref ≠ y.ref)
include h

/-- A constant leaves every other buffer. -/
theorem keeps_op0 (v : Ty.Contents (Elt F)) : reads ((op0 y v).result V) r = reads V r := by
  unfold reads op0 TRef.nullary
  rw [nullary_result_ne _ _ _ _ h]

/-- An operation of one operand leaves every buffer but its own. -/
theorem keeps_op1 (f : Tx.Contents (Elt F) → Ty.Contents (Elt F)) :
    reads ((op1 x y f).result V) r = reads V r := by
  unfold reads op1 TRef.unary
  rw [unary_result_ne _ _ _ _ _ _ h]

/-- An operation of two operands leaves every buffer but its own. -/
theorem keeps_op2 (f : Ta.Contents (Elt F) → Tb.Contents (Elt F) → Ty.Contents (Elt F)) :
    reads ((op2 a b y f).result V) r = reads V r := by
  unfold reads op2 TRef.binary
  rw [binary_result_ne _ _ _ _ _ _ _ _ h]

/-- An operation of three operands leaves every buffer but its own. -/
theorem keeps_op3 (f : Tc.Contents (Elt F) → Ta.Contents (Elt F) → Tb.Contents (Elt F) → Ty.Contents (Elt F)) :
    reads ((op3 c a b y f).result V) r = reads V r := by
  unfold reads op3 TRef.ternary
  rw [ternary_result_ne _ _ _ _ _ _ _ _ _ _ h]

/-- An operation of four operands leaves every buffer but its own. -/
theorem keeps_op4 (f : Ta.Contents (Elt F) → Tb.Contents (Elt F) → Tc.Contents (Elt F) → Te.Contents (Elt F) → Ty.Contents (Elt F)) :
    reads ((op4 a b c e y f).result V) r = reads V r := by
  unfold reads op4 TRef.quaternary
  rw [quaternary_result_ne _ _ _ _ _ _ _ _ _ _ _ _ h]

end Reads

end Cert.Host

end
-- ==== Proof.Reference.Cells.lean ====
/- The buffers of the reference's ten bins. -/
module

public import proofs.«01_k».proof.Proof.Gen.ReferenceIdeal
public import proofs.«01_k».proof.Proof.Reads

@[expose] public section

set_option maxRecDepth 16384

noncomputable section

namespace Cert.ReferenceIdeal.Ece

open Cert.Host Cert.ReferenceIdeal Cert.ReferenceIdeal.Gen Idealize.ShloMosaic Idealize.ShloMosaic.TcCoe Idealize.SL.Sem Idealize.ShloMosaic.StableHlo

variable {F : FTy → Type} [FloatOps F]

/-- Buffer number `n` of the reference's tensors. -/
def buf (n : Nat) (h : n < 393) : Ref sig .tc := ⟨.hbm, ⟨n, h⟩, rfl⟩

/-- Buffers of different numbers differ. -/
theorem buf_ne {n k : Nat} {hn : n < 393} {hk : k < 393} (h : n ≠ k) : buf n hn ≠ buf k hk := by
  intro e
  injection e with _ e
  exact h (congrArg Fin.val e)

/-- The number of value `j` of bin `i`: each bin has 34 values, numbered in the order of the program. -/
theorem cell_lt (i : Fin 10) (j : Fin 34) : 53 + 34 * i.val + j.val < 393 := by omega

/-- Value `j` of bin `i`, at its type. -/
def cell {T : BufTy} (i : Fin 10) (j : Fin 34)
    (h : ∀ i : Fin 10, (buf _ (cell_lt i j)).ty = T := by decide) : TRef sig T :=
  ⟨buf _ (cell_lt i j), h i, (by decide : Space.hbm ≠ Space.host), rfl⟩

/-- The running sum before bin `i`: zero before the first, the previous bin's last value later. -/
def carry (i : Fin 11) : TRef sig ⟨S1, .f32⟩ :=
  ⟨buf (52 + 34 * i.val) (by omega), (by decide : ∀ i : Fin 11, (buf (52 + 34 * i.val) (by omega)).ty = ⟨S1, .f32⟩) i, (by decide : Space.hbm ≠ Space.host), rfl⟩

end Cert.ReferenceIdeal.Ece

end
-- ==== Proof.Reference.Bins.lean ====
/- The operations of one bin of the reference, and what they leave: the running sum with the bin's term added. -/
module

public import proofs.«01_k».proof.Proof.Reference.Cells

@[expose] public section

set_option maxRecDepth 16384

noncomputable section

namespace Cert.ReferenceIdeal.Ece

open Cert.Host Cert.ReferenceIdeal Cert.ReferenceIdeal.Gen Idealize.ShloMosaic Idealize.ShloMosaic.TcCoe Idealize.SL.Sem Idealize.ShloMosaic.StableHlo

variable {F : FTy → Type} [FloatOps F]

/-- The type of a one-element array. -/
abbrev one : BufTy := ⟨S1, .f32⟩
/-- The type of a scalar. -/
abbrev scalar : BufTy := ⟨S_, .f32⟩
/-- The type of a column of numbers. -/
abbrev column : BufTy := ⟨S100000, .f32⟩
/-- The type of a column of truth values. -/
abbrev marks : BufTy := ⟨S100000, .i1⟩
/-- The type of a truth value. -/
abbrev mark : BufTy := ⟨S_, .i1⟩

/-- The buffer of the confidences. -/
abbrev confs : TRef sig column := .of main_v13
/-- The buffer of the correctness. -/
abbrev hits : TRef sig column := .of main_v16
/-- The buffer of the bin bounds. -/
abbrev edges : TRef sig ⟨S11, .f32⟩ := .of main_v17

/-- Each bound is one of the eleven. -/
theorem edge_slices (i : Fin 11) : S11.Slices ![i.val] S1 := (by decide : ∀ i : Fin 11, S11.Slices ![i.val] S1) i

/-- The lower bound of bin `i`. -/
abbrev low (i : Fin 10) : Fin 11 := ⟨i.val, by omega⟩
/-- The upper bound of bin `i`. -/
abbrev high (i : Fin 10) : Fin 11 := ⟨i.val + 1, by omega⟩

/-- Bound `k` as a scalar. -/
def edge (E : (⟨S11, .f32⟩ : BufTy).Contents (Elt F)) (k : Fin 11) : scalar.Contents (Elt F) :=
  shapeCast S_ (extractStridedSlice S1 ![k.val] E (edge_slices k)) shapeCasts_S1_S_

/-- The rows whose confidence lies in bin `i`, as zeros and ones. -/
def inBin (C : column.Contents (Elt F)) (E : (⟨S11, .f32⟩ : BufTy).Contents (Elt F)) (i : Fin 10) : column.Contents (Elt F) :=
  uitofp .f32 (andi (cmpf .ogt C (broadcastInDim S100000 ![] bcast_S_S100000 (edge E (low i))))
    (cmpf .ole C (broadcastInDim S100000 ![] bcast_S_S100000 (edge E (high i)))))

/-- The sum of a column. -/
def total (X : column.Contents (Elt F)) : scalar.Contents (Elt F) :=
  Host.reduceAdd X (constant S_ .f32 0x00000000#32) reducesTo_S100000_S_d0 h_S_

/-- A bin's term of the calibration error, from its count, its correct rows and its summed confidence. -/
def term (n a s : scalar.Contents (Elt F)) : scalar.Contents (Elt F) :=
  select (cmpf .ogt n (constant S_ .f32 0x00000000#32))
    (mulf (Host.absf (subf (Host.divf s (maximumf n (constant S_ .f32 0x3F800000#32))) (Host.divf a (maximumf n (constant S_ .f32 0x3F800000#32)))))
      (Host.divf n (constant S_ .f32 0x47C35000#32)))
    (constant S_ .f32 0x00000000#32)

/-- Bin `i`'s term, from the confidences, the correctness and the bounds. -/
def binTerm (C A : column.Contents (Elt F)) (E : (⟨S11, .f32⟩ : BufTy).Contents (Elt F)) (i : Fin 10) : scalar.Contents (Elt F) :=
  term (total (inBin C E i)) (total (mulf A (inBin C E i))) (total (mulf C (inBin C E i)))

/-- Bin `i`'s 34 operations. -/
def binOps (i : Fin 10) : List (HloOp τ sig (Elt F)) :=
  [ op1 edges (cell (T := one) i 0) (extractStridedSlice S1 ![(low i).val] · (edge_slices (low i))),
    op1 (cell (T := one) i 0) (cell (T := scalar) i 1) (shapeCast S_ · shapeCasts_S1_S_),
    op1 edges (cell (T := one) i 2) (extractStridedSlice S1 ![(high i).val] · (edge_slices (high i))),
    op1 (cell (T := one) i 2) (cell (T := scalar) i 3) (shapeCast S_ · shapeCasts_S1_S_),
    op1 (cell (T := scalar) i 1) (cell (T := column) i 4) (broadcastInDim S100000 ![] bcast_S_S100000),
    op2 confs (cell (T := column) i 4) (cell (T := marks) i 5) (cmpf .ogt),
    op1 (cell (T := scalar) i 3) (cell (T := column) i 6) (broadcastInDim S100000 ![] bcast_S_S100000),
    op2 confs (cell (T := column) i 6) (cell (T := marks) i 7) (cmpf .ole),
    op2 (cell (T := marks) i 5) (cell (T := marks) i 7) (cell (T := marks) i 8) andi,
    op1 (cell (T := marks) i 8) (cell (T := column) i 9) (uitofp .f32),
    op0 (cell (T := scalar) i 10) (constant S_ .f32 0x00000000#32),
    op2 (cell (T := column) i 9) (cell (T := scalar) i 10) (cell (T := scalar) i 11) (fun x v => Host.reduceAdd x v reducesTo_S100000_S_d0 h_S_),
    op0 (cell (T := scalar) i 12) (constant S_ .f32 0x47C35000#32),
    op2 (cell (T := scalar) i 11) (cell (T := scalar) i 12) (cell (T := scalar) i 13) Host.divf,
    op0 (cell (T := scalar) i 14) (constant S_ .f32 0x3F800000#32),
    op2 (cell (T := scalar) i 11) (cell (T := scalar) i 14) (cell (T := scalar) i 15) maximumf,
    op2 hits (cell (T := column) i 9) (cell (T := column) i 16) mulf,
    op0 (cell (T := scalar) i 17) (constant S_ .f32 0x00000000#32),
    op2 (cell (T := column) i 16) (cell (T := scalar) i 17) (cell (T := scalar) i 18) (fun x v => Host.reduceAdd x v reducesTo_S100000_S_d0 h_S_),
    op2 (cell (T := scalar) i 18) (cell (T := scalar) i 15) (cell (T := scalar) i 19) Host.divf,
    op2 confs (cell (T := column) i 9) (cell (T := column) i 20) mulf,
    op0 (cell (T := scalar) i 21) (constant S_ .f32 0x00000000#32),
    op2 (cell (T := column) i 20) (cell (T := scalar) i 21) (cell (T := scalar) i 22) (fun x v => Host.reduceAdd x v reducesTo_S100000_S_d0 h_S_),
    op2 (cell (T := scalar) i 22) (cell (T := scalar) i 15) (cell (T := scalar) i 23) Host.divf,
    op0 (cell (T := scalar) i 24) (constant S_ .f32 0x00000000#32),
    op2 (cell (T := scalar) i 11) (cell (T := scalar) i 24) (cell (T := mark) i 25) (cmpf .ogt),
    op2 (cell (T := scalar) i 23) (cell (T := scalar) i 19) (cell (T := scalar) i 26) subf,
    op1 (cell (T := scalar) i 26) (cell (T := scalar) i 27) Host.absf,
    op2 (cell (T := scalar) i 27) (cell (T := scalar) i 13) (cell (T := scalar) i 28) mulf,
    op0 (cell (T := scalar) i 29) (constant S_ .f32 0x00000000#32),
    op1 (cell (T := scalar) i 29) (cell (T := scalar) i 30) id,
    op3 (cell (T := mark) i 25) (cell (T := scalar) i 28) (cell (T := scalar) i 30) (cell (T := scalar) i 31) select,
    op1 (cell (T := scalar) i 31) (cell (T := one) i 32) (broadcastInDim S1 ![] bcast_S_S1),
    op2 (carry (low i)) (cell (T := one) i 32) (carry (high i)) addf ]

/-- Distinct values of a bin have distinct buffers. -/
theorem cell_ne {T U : BufTy} (i : Fin 10) (j k : Fin 34) {hj hk} (h : j ≠ k) :
    (cell (T := T) i j hj).ref ≠ (cell (T := U) i k hk).ref :=
  buf_ne (by have : j.val ≠ k.val := fun e => h (Fin.ext e); omega)

/-- The running sum before a bin is none of the bin's values. -/
theorem carry_ne {T : BufTy} (i : Fin 10) (k : Fin 34) {hk} : (carry (low i)).ref ≠ (cell (T := T) i k hk).ref :=
  buf_ne (by show 52 + 34 * i.val ≠ _; omega)

/-- A bin's values but the last are not the running sum after it. -/
theorem ne_carry {T : BufTy} (i : Fin 10) (k : Fin 34) {hk} (h : k.val < 33) : (cell (T := T) i k hk).ref ≠ (carry (high i)).ref :=
  buf_ne (by show _ ≠ 52 + 34 * (i.val + 1); omega)

/-- Buffer `n`, of those numbered before the bins. -/
def Early {T : BufTy} (r : TRef sig T) : Prop := ∃ n, ∃ h : n < 52, r.ref = buf n (by omega)

/-- A buffer numbered before the bins is none of theirs. -/
theorem early_ne {T U : BufTy} {r : TRef sig T} (hr : Early r) (i : Fin 10) (k : Fin 34) {hk} :
    r.ref ≠ (cell (T := U) i k hk).ref := by
  obtain ⟨n, hn, e⟩ := hr
  rw [e]
  exact buf_ne (by omega)

/-- A buffer numbered before the bins is no running sum. -/
theorem early_ne_carry {T : BufTy} {r : TRef sig T} (hr : Early r) (i : Fin 11) : r.ref ≠ (carry i).ref := by
  obtain ⟨n, hn, e⟩ := hr
  rw [e]
  exact buf_ne (by omega)

/-- The confidences, the correctness and the bounds are numbered before the bins. -/
theorem early_confs : Early confs := ⟨20, by decide, rfl⟩
@[inherit_doc early_confs] theorem early_hits : Early hits := ⟨27, by decide, rfl⟩
@[inherit_doc early_confs] theorem early_edges : Early edges := ⟨50, by decide, rfl⟩

/-- A bin's operations add the bin's term to the running sum. -/
theorem after_bin (V : Valuation τ sig (Elt F)) (i : Fin 10) :
    reads (after (binOps i) V) (carry (high i)) = addf (reads V (carry (low i)))
      (broadcastInDim S1 ![] bcast_S_S1 (binTerm (reads V confs) (reads V hits) (reads V edges) i)) := by
  simp (disch := (
      first
      | exact cell_ne _ _ _ (by decide)
      | exact early_ne early_confs _ _
      | exact early_ne early_hits _ _
      | exact early_ne early_edges _ _
      | exact carry_ne _ _)) only
    [binOps, after_cons, after_nil, reads_op0, reads_op1, reads_op2, reads_op3, keeps_op0, keeps_op1, keeps_op2, keeps_op3]
  rfl

/-- A bin's operations leave every buffer numbered before the bins. -/
theorem bin_keeps {T : BufTy} {r : TRef sig T} (hr : Early r) (V : Valuation τ sig (Elt F)) (i : Fin 10) :
    reads (after (binOps i) V) r = reads V r := by
  simp (disch := (first | exact early_ne hr _ _ | exact early_ne_carry hr _)) only
    [binOps, after_cons, after_nil, keeps_op0, keeps_op1, keeps_op2, keeps_op3]

end Cert.ReferenceIdeal.Ece

end
-- ==== Proof.Reference.Run.lean ====
/- The reference as one list of operations: what comes before its bins, then the ten bins; and its run. -/
module

public import proofs.«01_k».proof.Proof.Reference.Bins

@[expose] public section

set_option maxRecDepth 65536

noncomputable section

namespace Cert.ReferenceIdeal.Ece

open Cert.Host Cert.ReferenceIdeal Cert.ReferenceIdeal.Gen Idealize.ShloMosaic Idealize.ShloMosaic.TcCoe Idealize.SL.Sem Idealize.ShloMosaic.StableHlo

variable {F : FTy → Type} [FloatOps F]

/-- The type of the logits. -/
abbrev matrix : BufTy := ⟨S100000x1000, .f32⟩
/-- The type of a column as a matrix. -/
abbrev tall : BufTy := ⟨S100000x1, .f32⟩
/-- The type of a column of whole numbers. -/
abbrev labels : BufTy := ⟨S100000, .i32⟩
/-- The type of ten numbers. -/
abbrev ten : BufTy := ⟨S10, .f32⟩

/-- The softmax of the scaled logits and its row maxima. -/
def softOps : List (HloOp τ sig (Elt F)) :=
  [ op0 (.of main_cst : TRef sig scalar) (constant S_ .f32 0x3F000000#32),
    op1 (.of main_cst : TRef sig scalar) (.of main_v0 : TRef sig matrix) (broadcastInDim S100000x1000 ![] bcast_S_S100000x1000),
    op2 (.of main_arg0 : TRef sig matrix) (.of main_v0 : TRef sig matrix) (.of main_v1 : TRef sig matrix) Host.divf,
    op0 (.of main_cst_0 : TRef sig scalar) (constant S_ .f32 0xFF800000#32),
    op2 (.of main_v1 : TRef sig matrix) (.of main_cst_0 : TRef sig scalar) (.of main_v2 : TRef sig column)
      ((fun x v => Host.reduce FloatOps.maximumf x v reducesTo_S100000x1000_S100000_d1 h_S_) : (⟨S100000x1000, .f32⟩ : BufTy).Contents (Elt F) → (⟨S_, .f32⟩ : BufTy).Contents (Elt F) → (⟨S100000, .f32⟩ : BufTy).Contents (Elt F)),
    op0 (.of main_cst_1 : TRef sig scalar) (constant S_ .f32 0xFF800000#32),
    op1 (.of main_cst_1 : TRef sig scalar) (.of main_v3 : TRef sig column) (broadcastInDim S100000 ![] bcast_S_S100000),
    op2 (.of main_v3 : TRef sig column) (.of main_v2 : TRef sig column) (.of main_v4 : TRef sig column) maximumf,
    op1 (.of main_v4 : TRef sig column) (.of main_v5 : TRef sig tall) (broadcastInDim S100000x1 ![0] bcast_S100000_S100000x1_0),
    op1 (.of main_v5 : TRef sig tall) (.of main_v6 : TRef sig matrix) (broadcastInDim S100000x1000 ![0, 1] bcast_S100000x1_S100000x1000_0_1),
    op2 (.of main_v1 : TRef sig matrix) (.of main_v6 : TRef sig matrix) (.of main_v7 : TRef sig matrix) subf,
    op1 (.of main_v7 : TRef sig matrix) (.of main_v8 : TRef sig matrix) Host.exp,
    op0 (.of main_cst_2 : TRef sig scalar) (constant S_ .f32 0x00000000#32),
    op2 (.of main_v8 : TRef sig matrix) (.of main_cst_2 : TRef sig scalar) (.of main_v9 : TRef sig column)
      (fun x v => Host.reduceAdd x v reducesTo_S100000x1000_S100000_d1 h_S_),
    op1 (.of main_v9 : TRef sig column) (.of main_v10 : TRef sig tall) (broadcastInDim S100000x1 ![0] bcast_S100000_S100000x1_0),
    op1 (.of main_v10 : TRef sig tall) (.of main_v11 : TRef sig matrix) (broadcastInDim S100000x1000 ![0, 1] bcast_S100000x1_S100000x1000_0_1),
    op2 (.of main_v8 : TRef sig matrix) (.of main_v11 : TRef sig matrix) (.of main_v12 : TRef sig matrix) Host.divf,
    op0 (.of main_cst_3 : TRef sig scalar) (constant S_ .f32 0xFF800000#32),
    op2 (.of main_v12 : TRef sig matrix) (.of main_cst_3 : TRef sig scalar) confs
      ((fun x v => Host.reduce FloatOps.maximumf x v reducesTo_S100000x1000_S100000_d1 h_S_) : (⟨S100000x1000, .f32⟩ : BufTy).Contents (Elt F) → (⟨S_, .f32⟩ : BufTy).Contents (Elt F) → (⟨S100000, .f32⟩ : BufTy).Contents (Elt F)) ]

/-- The predicted column of each row, and whether it is the label. -/
def hitOps : List (HloOp τ sig (Elt F)) :=
  [ op0 (.of main_call0_v0 : TRef sig ⟨S100000x1000, .i32⟩) (iotaInDim S100000x1000 32 1),
    op0 (.of main_call0_cst : TRef sig scalar) (constant S_ .f32 0xFF800000#32),
    op0 (.of main_call0_c : TRef sig ⟨S_, .i32⟩) (constantI S_ 32 0#32),
    op4 (.of main_v12 : TRef sig matrix) (.of main_call0_v0 : TRef sig ⟨S100000x1000, .i32⟩) (.of main_call0_cst : TRef sig scalar)
      (.of main_call0_c : TRef sig ⟨S_, .i32⟩) (.of main_call0_v1_0 : TRef sig column)
      (fun x y u v j => (Host.argReduce reducer_argmax_f32_i32 x y u v reducesTo_S100000x1000_S100000_d1 h_S_ j).1),
    op4 (.of main_v12 : TRef sig matrix) (.of main_call0_v0 : TRef sig ⟨S100000x1000, .i32⟩) (.of main_call0_cst : TRef sig scalar)
      (.of main_call0_c : TRef sig ⟨S_, .i32⟩) (.of main_v14 : TRef sig labels)
      (fun x y u v j => (Host.argReduce reducer_argmax_f32_i32 x y u v reducesTo_S100000x1000_S100000_d1 h_S_ j).2),
    op2 (.of main_v14 : TRef sig labels) (.of main_arg1 : TRef sig labels) (.of main_v15 : TRef sig marks) (cmpi .eq),
    op1 (.of main_v15 : TRef sig marks) hits (uitofp .f32) ]

/-- The bin bounds, and the sum's first value. -/
def edgeOps : List (HloOp τ sig (Elt F)) :=
  [ op0 (.of main_cst_4 : TRef sig scalar) (constant S_ .f32 0x00000000#32),
    op0 (.of main_cst_5 : TRef sig scalar) (constant S_ .f32 0x3F800000#32),
    op1 (.of main_cst_4 : TRef sig scalar) (.of main_call1_v0 : TRef sig scalar) id,
    op1 (.of main_cst_5 : TRef sig scalar) (.of main_call1_v1 : TRef sig scalar) id,
    op2 (.of main_call1_v1 : TRef sig scalar) (.of main_call1_v0 : TRef sig scalar) (.of main_call1_v2 : TRef sig scalar) subf,
    op0 (.of main_call1_cst : TRef sig scalar) (constant S_ .f32 0x41200000#32),
    op2 (.of main_call1_v2 : TRef sig scalar) (.of main_call1_cst : TRef sig scalar) (.of main_call1_v3 : TRef sig scalar) Host.divf,
    op0 (.of main_call1_v4 : TRef sig ten) (sitofp .f32 (iotaInDim S10 32 0)),
    op0 (.of main_call1_cst_0 : TRef sig scalar) (constant S_ .f32 0x41200000#32),
    op1 (.of main_call1_cst_0 : TRef sig scalar) (.of main_call1_v5 : TRef sig ten) (broadcastInDim S10 ![] bcast_S_S10),
    op2 (.of main_call1_v4 : TRef sig ten) (.of main_call1_v5 : TRef sig ten) (.of main_call1_v6 : TRef sig ten) Host.divf,
    op1 (.of main_call1_v0 : TRef sig scalar) (.of main_call1_v7 : TRef sig one) (shapeCast S1 · shapeCasts_S_S1),
    op0 (.of main_call1_cst_1 : TRef sig scalar) (constant S_ .f32 0x3F800000#32),
    op1 (.of main_call1_cst_1 : TRef sig scalar) (.of main_call1_v8 : TRef sig ten) (broadcastInDim S10 ![] bcast_S_S10),
    op2 (.of main_call1_v8 : TRef sig ten) (.of main_call1_v6 : TRef sig ten) (.of main_call1_v9 : TRef sig ten) subf,
    op1 (.of main_call1_v7 : TRef sig one) (.of main_call1_v10 : TRef sig ten) (broadcastInDim S10 ![0] bcast_S1_S10_0),
    op2 (.of main_call1_v10 : TRef sig ten) (.of main_call1_v9 : TRef sig ten) (.of main_call1_v11 : TRef sig ten) mulf,
    op1 (.of main_call1_v1 : TRef sig scalar) (.of main_call1_v12 : TRef sig one) (shapeCast S1 · shapeCasts_S_S1),
    op1 (.of main_call1_v12 : TRef sig one) (.of main_call1_v13 : TRef sig ten) (broadcastInDim S10 ![0] bcast_S1_S10_0),
    op2 (.of main_call1_v13 : TRef sig ten) (.of main_call1_v6 : TRef sig ten) (.of main_call1_v14 : TRef sig ten) mulf,
    op2 (.of main_call1_v11 : TRef sig ten) (.of main_call1_v14 : TRef sig ten) (.of main_call1_v15 : TRef sig ten) addf,
    op1 (.of main_call1_v1 : TRef sig scalar) (.of main_call1_v16 : TRef sig one) (broadcastInDim S1 ![] bcast_S_S1),
    op2 (.of main_call1_v15 : TRef sig ten) (.of main_call1_v16 : TRef sig one) edges
      (fun a b => concatenate S11 0 [⟨S10, a⟩, ⟨S1, b⟩] concatenates_S10_S1_S11_d0),
    op0 (.of main_cst_6 : TRef sig scalar) (constant S_ .f32 0x00000000#32),
    op1 (.of main_cst_6 : TRef sig scalar) (carry 0) (broadcastInDim S1 ![] bcast_S_S1) ]

/-- The operations of the first `k` bins. -/
def binsUpTo : (k : Nat) → k ≤ 10 → List (HloOp τ sig (Elt F))
  | 0, _ => []
  | k + 1, h => binsUpTo k (by omega) ++ binOps ⟨k, by omega⟩

/-- All the reference's operations. -/
def refOps : List (HloOp τ sig (Elt F)) := softOps ++ (hitOps ++ (edgeOps ++ binsUpTo 10 le_rfl))

seal Host.reduce in
/-- The first window: all before the bins, and bin 0. -/
theorem part0_eq (d : Dev nD) : main_part0 (F := F) d = seq (softOps ++ (hitOps ++ (edgeOps ++ binOps 0))) := rfl
/-- The second window: bin 1 and the start of bin 2. -/
theorem part1_eq (d : Dev nD) : main_part1 (F := F) d = seq (binOps 1 ++ (binOps 2).take 27) := rfl
/-- The third window: the rest of bin 2, bin 3 and the start of bin 4. -/
theorem part2_eq (d : Dev nD) : main_part2 (F := F) d = seq ((binOps 2).drop 27 ++ (binOps 3 ++ (binOps 4).take 21)) := rfl
/-- The fourth window: the rest of bin 4, bin 5 and the start of bin 6. -/
theorem part3_eq (d : Dev nD) : main_part3 (F := F) d = seq ((binOps 4).drop 21 ++ (binOps 5 ++ (binOps 6).take 15)) := rfl
/-- The fifth window: the rest of bin 6, bin 7 and the start of bin 8. -/
theorem part4_eq (d : Dev nD) : main_part4 (F := F) d = seq ((binOps 6).drop 15 ++ (binOps 7 ++ (binOps 8).take 9)) := rfl
/-- The last window: the rest of bin 8, and bin 9. -/
theorem part5_eq (d : Dev nD) : main_part5 (F := F) d = seq ((binOps 8).drop 9 ++ binOps 9) := rfl

/-- A list's first part and the rest, followed by another list. -/
theorem take_drop {α : Type} (n : Nat) (l k : List α) : l.take n ++ (l.drop n ++ k) = l ++ k := by
  rw [← List.append_assoc, List.take_append_drop]

/-- The reference runs those operations in order. -/
theorem main_eq (d : Dev nD) : main (F := F) d = seq refOps := by
  have e : main (F := F) d = (main_part0 d >>= fun _ => main_part1 d >>= fun _ => main_part2 d >>= fun _ => main_part3 d >>= fun _ =>
    main_part4 d >>= fun _ => main_part5 d) := rfl
  rw [e, part0_eq, part1_eq, part2_eq, part3_eq, part4_eq, part5_eq]
  have l : (refOps : List (HloOp τ sig (Elt F))) = (softOps ++ (hitOps ++ (edgeOps ++ binOps 0))) ++ ((binOps 1 ++ (binOps 2).take 27)
    ++ (((binOps 2).drop 27 ++ (binOps 3 ++ (binOps 4).take 21)) ++ (((binOps 4).drop 21 ++ (binOps 5 ++ (binOps 6).take 15))
    ++ (((binOps 6).drop 15 ++ (binOps 7 ++ (binOps 8).take 9)) ++ ((binOps 8).drop 9 ++ binOps 9))))) := by
    simp only [List.append_assoc, take_drop]
    rfl
  rw [l]
  simp only [seq_append, bind_assoc]

/-! ## The operations touch tensor buffers alone and determine what they write -/

/-- What a run asks of an operation: its buffers are the device's, and it determines its results. -/
def Plain (op : HloOp τ sig (Elt F)) : Prop := op.bufs ⊆ tcRefs τ sig ∧ op.fresh = ∅

section Plain

variable {Tx Ta Tb Tc Te Ty : BufTy} (x : TRef sig Tx) (a : TRef sig Ta) (b : TRef sig Tb) (c : TRef sig Tc) (e : TRef sig Te) (y : TRef sig Ty)

/-- Operations of no to four operands are plain. -/
theorem plain_op0 (v : Ty.Contents (Elt F)) : Plain (op0 y v) := by
  refine ⟨?_, rfl⟩
  unfold op0 TRef.nullary
  rw [nullary_bufs]
  rw [Finset.singleton_subset_iff]
  exact devRef_mem_tcRefs _
@[inherit_doc plain_op0] theorem plain_op1 (f : Tx.Contents (Elt F) → Ty.Contents (Elt F)) : Plain (op1 x y f) := by
  refine ⟨?_, rfl⟩
  unfold op1 TRef.unary
  rw [unary_bufs]
  simp only [Finset.insert_subset_iff, Finset.singleton_subset_iff]
  exact ⟨devRef_mem_tcRefs _, devRef_mem_tcRefs _⟩
@[inherit_doc plain_op0] theorem plain_op2 (f : Ta.Contents (Elt F) → Tb.Contents (Elt F) → Ty.Contents (Elt F)) : Plain (op2 a b y f) := by
  refine ⟨?_, rfl⟩
  unfold op2 TRef.binary
  rw [binary_bufs]
  simp only [Finset.insert_subset_iff, Finset.singleton_subset_iff]
  exact ⟨devRef_mem_tcRefs _, devRef_mem_tcRefs _, devRef_mem_tcRefs _⟩
@[inherit_doc plain_op0] theorem plain_op3 (f : Tc.Contents (Elt F) → Ta.Contents (Elt F) → Tb.Contents (Elt F) → Ty.Contents (Elt F)) :
    Plain (op3 c a b y f) := by
  refine ⟨?_, rfl⟩
  unfold op3 TRef.ternary
  rw [ternary_bufs]
  simp only [Finset.insert_subset_iff, Finset.singleton_subset_iff]
  exact ⟨devRef_mem_tcRefs _, devRef_mem_tcRefs _, devRef_mem_tcRefs _, devRef_mem_tcRefs _⟩
@[inherit_doc plain_op0] theorem plain_op4
    (f : Ta.Contents (Elt F) → Tb.Contents (Elt F) → Tc.Contents (Elt F) → Te.Contents (Elt F) → Ty.Contents (Elt F)) :
    Plain (op4 a b c e y f) := by
  refine ⟨?_, rfl⟩
  unfold op4 TRef.quaternary
  rw [quaternary_bufs]
  simp only [Finset.insert_subset_iff, Finset.singleton_subset_iff]
  exact ⟨devRef_mem_tcRefs _, devRef_mem_tcRefs _, devRef_mem_tcRefs _, devRef_mem_tcRefs _, devRef_mem_tcRefs _⟩

end Plain

/-- A bin's operations are plain. -/
theorem plain_bin (i : Fin 10) : (binOps (F := F) i).Forall Plain := by
  simp only [binOps, List.Forall, plain_op0, plain_op1, plain_op2, plain_op3, and_self]

/-- The operations of any number of bins are plain. -/
theorem plain_bins : ∀ (k : Nat) (h : k ≤ 10), (binsUpTo (F := F) k h).Forall Plain
  | 0, _ => trivial
  | k + 1, h => by
    rw [binsUpTo, List.forall_append]
    exact ⟨plain_bins k _, plain_bin _⟩

/-- All the operations are plain. -/
theorem plain_all : (refOps (F := F)).Forall Plain := by
  simp only [refOps, List.forall_append]
  refine ⟨?_, ?_, ?_, plain_bins _ _⟩
  · simp only [softOps, List.Forall, plain_op0, plain_op1, plain_op2, and_self]
  · simp only [hitOps, List.Forall, plain_op0, plain_op1, plain_op2, plain_op4, and_self]
  · simp only [edgeOps, List.Forall, plain_op0, plain_op1, plain_op2, and_self]

/-! ## The run -/

/-- Every fair execution of the reference ends with each buffer at the fold of its operations. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after refOps (launchContents m d) (Proc.devRef .tc b) :=
  run_seq (by decide) (by decide) defs main (fun _ => refOps) main_eq
    (fun _ => plain_all.imp fun _ h => h.1) m ρ fun _ op h => ((List.forall_iff_forall_mem.1 plain_all) op h).2

end Cert.ReferenceIdeal.Ece

end
-- ==== Proof.Reference.Front.lean ====
/- What the reference's buffers hold: the softmax's row maxima, the correctness of the predictions, the bin bounds, and the result. -/
module

public import proofs.«01_k».proof.Proof.Reference.Run

@[expose] public section

set_option maxRecDepth 65536

noncomputable section

namespace Cert.ReferenceIdeal.Ece

open Cert.Host Cert.ReferenceIdeal Cert.ReferenceIdeal.Gen Idealize.ShloMosaic Idealize.ShloMosaic.TcCoe Idealize.SL.Sem Idealize.ShloMosaic.StableHlo

variable {F : FTy → Type} [FloatOps F]

/-- The largest entry of each row. -/
def rowMax (X : matrix.Contents (Elt F)) : column.Contents (Elt F) :=
  Host.reduce FloatOps.maximumf X (constant S_ .f32 0xFF800000#32) reducesTo_S100000x1000_S100000_d1 h_S_

/-- A column's entry at every place of its row. -/
def spread (v : column.Contents (Elt F)) : matrix.Contents (Elt F) :=
  broadcastInDim S100000x1000 ![0, 1] bcast_S100000x1_S100000x1000_0_1 (broadcastInDim S100000x1 ![0] bcast_S100000_S100000x1_0 v)

/-- The logits over the temperature. -/
def scaled (X : matrix.Contents (Elt F)) : matrix.Contents (Elt F) :=
  Host.divf X (broadcastInDim S100000x1000 ![] bcast_S_S100000x1000 (constant S_ .f32 0x3F000000#32 : scalar.Contents (Elt F)))

/-- The exponentials of the scaled logits less their row's maximum. -/
def exps (X : matrix.Contents (Elt F)) : matrix.Contents (Elt F) :=
  Host.exp (subf (scaled X)
    (spread (maximumf (broadcastInDim S100000 ![] bcast_S_S100000 (constant S_ .f32 0xFF800000#32 : scalar.Contents (Elt F))) (rowMax (scaled X)))))

/-- The softmax of each row. -/
def soft (X : matrix.Contents (Elt F)) : matrix.Contents (Elt F) :=
  Host.divf (exps X) (spread (Host.reduceAdd (exps X) (constant S_ .f32 0x00000000#32) reducesTo_S100000x1000_S100000_d1 h_S_))

/-- The column predicted for each row: the first at which the row is largest. -/
def picked (X : matrix.Contents (Elt F)) : labels.Contents (Elt F) :=
  fun j => (Host.argReduce reducer_argmax_f32_i32 X (iotaInDim S100000x1000 32 1) (constant S_ .f32 0xFF800000#32) (constantI S_ 32 0#32)
    reducesTo_S100000x1000_S100000_d1 h_S_ j).2

/-- Whether the prediction is the label, as zero or one. -/
def right (X : matrix.Contents (Elt F)) (L : labels.Contents (Elt F)) : column.Contents (Elt F) :=
  uitofp .f32 (cmpi .eq (picked (soft X)) L)

/-- The tenths from zero to nine tenths. -/
def tenths : ten.Contents (Elt F) :=
  Host.divf (sitofp .f32 (iotaInDim S10 32 0)) (broadcastInDim S10 ![] bcast_S_S10 (constant S_ .f32 0x41200000#32 : scalar.Contents (Elt F)))

/-- The eleven bin bounds. -/
def bounds : (⟨S11, .f32⟩ : BufTy).Contents (Elt F) :=
  concatenate S11 0
    [⟨S10, addf
        (mulf (broadcastInDim S10 ![0] bcast_S1_S10_0 (shapeCast S1 (constant S_ .f32 0x00000000#32 : scalar.Contents (Elt F)) shapeCasts_S_S1))
          (subf (broadcastInDim S10 ![] bcast_S_S10 (constant S_ .f32 0x3F800000#32 : scalar.Contents (Elt F))) tenths))
        (mulf (broadcastInDim S10 ![0] bcast_S1_S10_0 (shapeCast S1 (constant S_ .f32 0x3F800000#32 : scalar.Contents (Elt F)) shapeCasts_S_S1))
          tenths)⟩,
      ⟨S1, broadcastInDim S1 ![] bcast_S_S1 (constant S_ .f32 0x3F800000#32 : scalar.Contents (Elt F))⟩]
    concatenates_S10_S1_S11_d0

/-- The first `k` bins' terms, summed from zero. -/
def summed (C A : column.Contents (Elt F)) (E : (⟨S11, .f32⟩ : BufTy).Contents (Elt F)) : (k : Nat) → k ≤ 10 → one.Contents (Elt F)
  | 0, _ => broadcastInDim S1 ![] bcast_S_S1 (constant S_ .f32 0x00000000#32 : scalar.Contents (Elt F))
  | k + 1, h => addf (summed C A E k (by omega)) (broadcastInDim S1 ![] bcast_S_S1 (binTerm C A E ⟨k, by omega⟩))

/-- The logits' buffer. -/
abbrev logits : TRef sig matrix := .of main_arg0
/-- The labels' buffer. -/
abbrev marked : TRef sig labels := .of main_arg1
/-- The softmax's buffer. -/
abbrev softs : TRef sig matrix := .of main_v12

variable (V : Valuation τ sig (Elt F))

/-- After the first stretch the softmax's buffer holds the softmax. -/
theorem softs_after : reads (after softOps V) softs = soft (reads V logits) := by
  simp (disch := decide) only [softOps, after_cons, after_nil, reads_op0, reads_op1, reads_op2, keeps_op0, keeps_op1, keeps_op2]
  rfl

/-- After the first stretch the confidences are the softmax's row maxima. -/
theorem confs_after : reads (after softOps V) confs = rowMax (soft (reads V logits)) := by
  simp (disch := decide) only [softOps, after_cons, after_nil, reads_op0, reads_op1, reads_op2, keeps_op0, keeps_op1, keeps_op2]
  rfl

/-- The first stretch leaves the arguments. -/
theorem soft_keeps : reads (after softOps V) logits = reads V logits ∧ reads (after softOps V) marked = reads V marked := by
  constructor <;>
  simp (disch := decide) only [softOps, after_cons, after_nil, keeps_op0, keeps_op1, keeps_op2]

/-- After the second stretch the correctness tells which predictions are the labels. -/
theorem hits_after : reads (after hitOps V) hits = uitofp .f32 (cmpi .eq (picked (reads V softs)) (reads V marked)) := by
  simp (disch := decide) only [hitOps, after_cons, after_nil, reads_op0, reads_op1, reads_op2, reads_op4, keeps_op0, keeps_op1, keeps_op2, keeps_op4]
  rfl

/-- The second stretch leaves the arguments and the confidences. -/
theorem hit_keeps : reads (after hitOps V) logits = reads V logits ∧ reads (after hitOps V) marked = reads V marked
    ∧ reads (after hitOps V) confs = reads V confs := by
  refine ⟨?_, ?_, ?_⟩ <;>
  simp (disch := decide) only [hitOps, after_cons, after_nil, keeps_op0, keeps_op1, keeps_op2, keeps_op4]

/-- After the third stretch the bounds are the eleven, and the running sum is zero. -/
theorem edges_after : reads (after edgeOps V) edges = bounds
    ∧ reads (after edgeOps V) (carry 0) = broadcastInDim S1 ![] bcast_S_S1 (constant S_ .f32 0x00000000#32 : scalar.Contents (Elt F)) := by
  constructor <;>
  simp (disch := decide) only [edgeOps, after_cons, after_nil, reads_op0, reads_op1, reads_op2, keeps_op0, keeps_op1, keeps_op2] <;>
  rfl

/-- The third stretch leaves the arguments, the confidences and the correctness. -/
theorem edge_keeps : reads (after edgeOps V) logits = reads V logits ∧ reads (after edgeOps V) marked = reads V marked
    ∧ reads (after edgeOps V) confs = reads V confs ∧ reads (after edgeOps V) hits = reads V hits := by
  refine ⟨?_, ?_, ?_, ?_⟩ <;>
  simp (disch := decide) only [edgeOps, after_cons, after_nil, keeps_op0, keeps_op1, keeps_op2]

/-- Any number of bins leave the buffers numbered before them. -/
theorem bins_keep {T : BufTy} {r : TRef sig T} (hr : Early r) : ∀ (k : Nat) (h : k ≤ 10), reads (after (binsUpTo k h) V) r = reads V r
  | 0, _ => rfl
  | k + 1, h => by
    rw [binsUpTo, after_append, bin_keeps hr, bins_keep hr k]

/-- After `k` bins the running sum is the sum of their terms. -/
theorem bins_after (h0 : reads V (carry 0) = broadcastInDim S1 ![] bcast_S_S1 (constant S_ .f32 0x00000000#32 : scalar.Contents (Elt F))) :
    ∀ (k : Nat) (h : k ≤ 10), reads (after (binsUpTo k h) V) (carry ⟨k, by omega⟩) = summed (reads V confs) (reads V hits) (reads V edges) k h
  | 0, _ => h0
  | k + 1, h => by
    rw [binsUpTo, after_append]
    refine (after_bin _ ⟨k, by omega⟩).trans ?_
    rw [bins_keep V early_confs, bins_keep V early_hits, bins_keep V early_edges, summed]
    exact congrArg (fun x => addf x _) (bins_after h0 k (by omega))

/-- The arguments are numbered before the bins. -/
theorem early_logits : Early logits := ⟨0, by decide, rfl⟩
@[inherit_doc early_logits] theorem early_marked : Early marked := ⟨1, by decide, rfl⟩

/-- The reference leaves its arguments. -/
theorem ref_keeps : reads (after refOps V) logits = reads V logits ∧ reads (after refOps V) marked = reads V marked := by
  simp only [refOps, after_append]
  rw [bins_keep _ early_logits, bins_keep _ early_marked, (edge_keeps _).1, (edge_keeps _).2.1, (hit_keeps _).1, (hit_keeps _).2.1,
    (soft_keeps _).1, (soft_keeps _).2]
  exact ⟨rfl, rfl⟩

/-- The reference's result: the ten terms' sum, at the softmax's row maxima and the predictions' correctness. -/
theorem ref_result : reads (after refOps V) (carry 10)
    = summed (rowMax (soft (reads V logits))) (right (reads V logits) (reads V marked)) bounds 10 le_rfl := by
  simp only [refOps, after_append]
  refine (bins_after _ (edges_after _).2 10 le_rfl).trans ?_
  rw [(edges_after _).1, (edge_keeps _).2.2.1, (edge_keeps _).2.2.2, (hit_keeps _).2.2, hits_after, softs_after, confs_after, (soft_keeps _).2]
  rfl

/-- The logits' buffer as the program names it. -/
theorem reads_logits : reads V logits = V (Proc.devRef .tc main_arg0) := rfl
/-- The labels' buffer as the program names it. -/
theorem reads_marked : reads V marked = V (Proc.devRef .tc main_arg1) := rfl
/-- The last running sum's buffer as the program names it. -/
theorem reads_last : reads V (carry 10) = V (Proc.devRef .tc main_v278) := rfl

/-- The result and the arguments after all the operations, by the program's names. -/
theorem ref_named : after refOps V (Proc.devRef .tc main_v278)
      = summed (rowMax (soft (V (Proc.devRef .tc main_arg0)))) (right (V (Proc.devRef .tc main_arg0)) (V (Proc.devRef .tc main_arg1))) bounds 10 le_rfl
    ∧ after refOps V (Proc.devRef .tc main_arg0) = V (Proc.devRef .tc main_arg0)
    ∧ after refOps V (Proc.devRef .tc main_arg1) = V (Proc.devRef .tc main_arg1) := by
  have h := ref_result V
  have k := ref_keeps V
  rw [reads_logits, reads_marked, reads_last] at h
  rw [reads_logits, reads_marked, reads_logits, reads_marked] at k
  exact ⟨h, k⟩

/-- Every fair execution of the reference leaves its arguments, and ends with the result at the ten terms' sum. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278)
        = summed (rowMax (soft (m ((c.tc : Thread nD τ).loc main_arg0))))
            (right (m ((c.tc : Thread nD τ).loc main_arg0)) (m ((c.tc : Thread nD τ).loc main_arg1))) bounds 10 le_rfl
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v278).trans (ref_named (launchContents m c)).1,
    (h c main_arg0).trans (ref_named (launchContents m c)).2.1, (h c main_arg1).trans (ref_named (launchContents m c)).2.2⟩) (run m ρ)

end Cert.ReferenceIdeal.Ece

end
-- ==== Proof.Value.Host.lean ====
/-
  What the host operations before the grid leave: the labels as a column, and the eleven bin bounds, the reference's own, as
  a row.
-/
module

public import proofs.«01_k».proof.Proof.Ideal.Frame
public import proofs.«01_k».proof.Proof.Reference.Front

@[expose] public section

set_option maxRecDepth 65536

noncomputable section

namespace Cert.KernelIdeal.Ece

open Cert.Host Cert.KernelIdeal Cert.KernelIdeal.Gen Idealize.ShloMosaic Idealize.ShloMosaic.TcCoe Idealize.SL.Sem Idealize.ShloMosaic.StableHlo

variable {F : FTy → Type} [FloatOps F] [Named F]

/-- The types of a scalar, of one number and of ten numbers. -/
abbrev scalar : BufTy := ⟨S_, .f32⟩
@[inherit_doc scalar] abbrev one : BufTy := ⟨S1, .f32⟩
@[inherit_doc scalar] abbrev ten : BufTy := ⟨S10, .f32⟩
/-- The buffers of the labels, of the labels as a column, of the bin bounds and of the bounds as a row. -/
abbrev marked : TRef sig ⟨S100000, .i32⟩ := .of main_arg1
@[inherit_doc marked] abbrev column : TRef sig ⟨S100000x1, .i32⟩ := .of main_v0
@[inherit_doc marked] abbrev edges : TRef sig ⟨S11, .f32⟩ := .of main_v1
@[inherit_doc marked] abbrev edgeRow : TRef sig ⟨S1x11, .f32⟩ := .of main_v2

/-- The host operations before the grid. -/
def frontOps : List (HloOp τ sig (Elt F)) :=
  [ op1 marked column (shapeCast S100000x1 · shapeCasts_S100000_S100000x1),
    op0 (.of main_cst : TRef sig scalar) (constant S_ .f32 0x00000000#32),
    op0 (.of main_cst_0 : TRef sig scalar) (constant S_ .f32 0x3F800000#32),
    op1 (.of main_cst : TRef sig scalar) (.of main_call0_v0 : TRef sig scalar) id,
    op1 (.of main_cst_0 : TRef sig scalar) (.of main_call0_v1 : TRef sig scalar) id,
    op2 (.of main_call0_v1 : TRef sig scalar) (.of main_call0_v0 : TRef sig scalar) (.of main_call0_v2 : TRef sig scalar) subf,
    op0 (.of main_call0_cst : TRef sig scalar) (constant S_ .f32 0x41200000#32),
    op2 (.of main_call0_v2 : TRef sig scalar) (.of main_call0_cst : TRef sig scalar) (.of main_call0_v3 : TRef sig scalar) Host.divf,
    op0 (.of main_call0_v4 : TRef sig ten) (sitofp .f32 (iotaInDim S10 32 0)),
    op0 (.of main_call0_cst_0 : TRef sig scalar) (constant S_ .f32 0x41200000#32),
    op1 (.of main_call0_cst_0 : TRef sig scalar) (.of main_call0_v5 : TRef sig ten) (broadcastInDim S10 ![] bcast_S_S10),
    op2 (.of main_call0_v4 : TRef sig ten) (.of main_call0_v5 : TRef sig ten) (.of main_call0_v6 : TRef sig ten) Host.divf,
    op1 (.of main_call0_v0 : TRef sig scalar) (.of main_call0_v7 : TRef sig one) (shapeCast S1 · shapeCasts_S_S1),
    op0 (.of main_call0_cst_1 : TRef sig scalar) (constant S_ .f32 0x3F800000#32),
    op1 (.of main_call0_cst_1 : TRef sig scalar) (.of main_call0_v8 : TRef sig ten) (broadcastInDim S10 ![] bcast_S_S10),
    op2 (.of main_call0_v8 : TRef sig ten) (.of main_call0_v6 : TRef sig ten) (.of main_call0_v9 : TRef sig ten) subf,
    op1 (.of main_call0_v7 : TRef sig one) (.of main_call0_v10 : TRef sig ten) (broadcastInDim S10 ![0] bcast_S1_S10_0),
    op2 (.of main_call0_v10 : TRef sig ten) (.of main_call0_v9 : TRef sig ten) (.of main_call0_v11 : TRef sig ten) mulf,
    op1 (.of main_call0_v1 : TRef sig scalar) (.of main_call0_v12 : TRef sig one) (shapeCast S1 · shapeCasts_S_S1),
    op1 (.of main_call0_v12 : TRef sig one) (.of main_call0_v13 : TRef sig ten) (broadcastInDim S10 ![0] bcast_S1_S10_0),
    op2 (.of main_call0_v13 : TRef sig ten) (.of main_call0_v6 : TRef sig ten) (.of main_call0_v14 : TRef sig ten) mulf,
    op2 (.of main_call0_v11 : TRef sig ten) (.of main_call0_v14 : TRef sig ten) (.of main_call0_v15 : TRef sig ten) addf,
    op1 (.of main_call0_v1 : TRef sig scalar) (.of main_call0_v16 : TRef sig one) (broadcastInDim S1 ![] bcast_S_S1),
    op2 (.of main_call0_v15 : TRef sig ten) (.of main_call0_v16 : TRef sig one) edges (fun a b => concatenate S11 0 [⟨S10, a⟩, ⟨S1, b⟩] concatenates_S10_S1_S11_d0),
    op1 edges edgeRow (shapeCast S1x11 · shapeCasts_S11_S1x11) ]

/-- They are the program's. -/
theorem front_eq : (List.flatten [hostOps0, hostOps0_1, hostOps0_2] : List (HloOp τ sig (Elt F))) = frontOps := rfl

variable (V : Valuation τ sig (Elt F))

/-- They leave the labels as a column, -/
theorem column_after : reads (after frontOps V) column = shapeCast S100000x1 (reads V marked) shapeCasts_S100000_S100000x1 := by
  simp (disch := decide) only [frontOps, after_cons, after_nil, reads_op0, reads_op1, reads_op2, keeps_op0, keeps_op1, keeps_op2]

/-- and the reference's bounds as a row. -/
theorem edges_after : reads (after frontOps V) edgeRow
    = shapeCast S1x11 (Cert.ReferenceIdeal.Ece.bounds (F := F)) shapeCasts_S11_S1x11 := by
  simp (disch := decide) only [frontOps, after_cons, after_nil, reads_op0, reads_op1, reads_op2, keeps_op0, keeps_op1, keeps_op2]
  rfl

variable (m : (ℓ : Loc nD τ sig) → Buf (Elt F) ℓ) (c : Dev nD)

/-- The grid finds the labels as a column, -/
theorem V_column : Gen.V m c main_v0 = shapeCast S100000x1 (m ((c : Thread nD τ).loc main_arg1)) shapeCasts_S100000_S100000x1 := by
  have h := column_after (F := F) (fun b => m (c, b))
  rw [← front_eq] at h
  exact h
/-- and the bounds as a row. -/
theorem V_edges : Gen.V m c main_v2 = shapeCast S1x11 (Cert.ReferenceIdeal.Ece.bounds (F := F)) shapeCasts_S11_S1x11 := by
  have h := edges_after (F := F) (fun b => m (c, b))
  rw [← front_eq] at h
  exact h

end Cert.KernelIdeal.Ece

end
-- ==== Proof.Value.Row.lean ====
/-
  One row of logits over the extended reals: the confidence as the kernel takes it, the largest weight over the sum of the
  weights, and as the softmax has it. They are the same number where the row's largest entry is real, and neither is
  positive elsewhere.
-/
module

public import Idealize.ShloMosaic.PureOps.Ideal

@[expose] public section

noncomputable section

namespace Cert.Rows

open Idealize.ShloMosaic

/-- Twice the base-two logarithm of e. -/
def rate : EReal := ((2 * (Real.log 2)⁻¹ : ℝ) : EReal)
/-- The kernel's weight of an entry. -/
def weight (x : EReal) : EReal := Ideal.exp2 (x * rate)
/-- An entry over the temperature, one half. -/
def doubled (x : EReal) : EReal := Ideal.div x ((1 / 2 : ℝ) : EReal)
/-- The exponential of twice an entry, as a real number, for an entry below `⊤`. -/
def mass (x : EReal) : ℝ := if x = ⊥ then 0 else Real.exp (2 * x.toReal)

/-- The named constant is positive. -/
theorem rate_pos : (0 : ℝ) < 2 * (Real.log 2)⁻¹ := by
  have : 0 < Real.log 2 := Real.log_pos (by norm_num)
  positivity

/-- The weight at minus infinity, -/
theorem weight_bot : weight ⊥ = 0 := by
  rw [weight, rate, EReal.bot_mul_coe_of_pos rate_pos]; rfl
/-- at infinity -/
theorem weight_top : weight ⊤ = ⊤ := by
  rw [weight, rate, EReal.top_mul_coe_of_pos rate_pos]; rfl
/-- and at a real. -/
theorem weight_coe (r : ℝ) : weight (r : EReal) = ((Real.exp (2 * r) : ℝ) : EReal) := by
  have h : Real.log 2 ≠ 0 := (Real.log_pos (by norm_num)).ne'
  rw [weight, rate, ← EReal.coe_mul, Ideal.exp2_coe]
  congr 1
  show (2 : ℝ) ^ (r * (2 * (Real.log 2)⁻¹)) = _
  rw [Real.rpow_def_of_pos (by norm_num)]
  congr 1
  field_simp

/-- Dividing by one half is multiplying by two: -/
theorem doubled_eq (x : EReal) : doubled x = x * ((2 : ℝ) : EReal) := by
  rw [doubled, Ideal.div_coe (by norm_num)]; norm_num
/-- at minus infinity, -/
theorem doubled_bot : doubled ⊥ = ⊥ := by
  rw [doubled_eq, EReal.bot_mul_coe_of_pos (by norm_num)]
/-- at infinity, -/
theorem doubled_top : doubled ⊤ = ⊤ := by
  rw [doubled_eq, EReal.top_mul_coe_of_pos (by norm_num)]
/-- and at a real. -/
theorem doubled_coe (r : ℝ) : doubled (r : EReal) = ((2 * r : ℝ) : EReal) := by
  rw [doubled_eq, ← EReal.coe_mul, mul_comm]
/-- It keeps the order. -/
theorem doubled_mono {x y : EReal} (h : x ≤ y) : doubled x ≤ doubled y := by
  rw [doubled_eq, doubled_eq]
  exact mul_le_mul_of_nonneg_right h (by exact_mod_cast (by norm_num : (0 : ℝ) ≤ 2))

/-- A mass is not negative. -/
theorem mass_nonneg (x : EReal) : 0 ≤ mass x := by
  unfold mass; split_ifs
  · exact le_rfl
  · exact (Real.exp_pos _).le
/-- A real's mass. -/
theorem mass_coe (r : ℝ) : mass (r : EReal) = Real.exp (2 * r) := by
  rw [mass, if_neg (EReal.coe_ne_bot r), EReal.toReal_coe]
/-- Below `⊤` the weight is the mass, -/
theorem weight_eq {x : EReal} (h : x ≠ ⊤) : weight x = ((mass x : ℝ) : EReal) := by
  induction x with
  | bot => rw [weight_bot, mass, if_pos rfl, EReal.coe_zero]
  | top => exact absurd rfl h
  | coe r => rw [weight_coe, mass_coe]
/-- which grows with the entry. -/
theorem mass_lt {x y : EReal} (hy : y ≠ ⊤) (h : x < y) : mass x < mass y := by
  induction y with
  | bot => exact absurd h not_lt_bot
  | top => exact absurd rfl hy
  | coe s =>
    rw [mass_coe]
    induction x with
    | bot => rw [mass, if_pos rfl]; exact Real.exp_pos _
    | top => exact absurd h not_top_lt
    | coe r =>
      rw [mass_coe]
      exact Real.exp_lt_exp.mpr (by have := EReal.coe_lt_coe_iff.mp h; linarith)
/-- Below infinity a larger number has the larger mass. -/
theorem mass_le {x y : EReal} (hy : y ≠ ⊤) (h : x ≤ y) : mass x ≤ mass y :=
  h.lt_or_eq.elim (fun h => (mass_lt hy h).le) fun h => h ▸ le_rfl
/-- A weight is not negative. -/
theorem weight_nonneg (x : EReal) : 0 ≤ weight x := by
  by_cases h : x = ⊤
  · rw [h, weight_top]; exact le_top
  · rw [weight_eq h]; exact_mod_cast mass_nonneg x
/-- A larger number has the larger weight. -/
theorem weight_mono {x y : EReal} (h : x ≤ y) : weight x ≤ weight y := by
  by_cases hy : y = ⊤
  · rw [hy, weight_top]; exact le_top
  · rw [weight_eq hy, weight_eq (ne_top_of_le_ne_top hy h)]; exact_mod_cast mass_le hy h
/-- The softmax's exponential, at a row whose largest entry is real. -/
theorem exp_sub {x : EReal} (h : x ≠ ⊤) (M : ℝ) :
    Ideal.exp (doubled x - doubled (M : EReal)) = ((mass x * Real.exp (-(2 * M)) : ℝ) : EReal) := by
  rw [doubled_coe]
  induction x with
  | bot => rw [doubled_bot, mass, if_pos rfl, zero_mul, EReal.bot_sub]; rfl
  | top => exact absurd rfl h
  | coe r =>
    rw [doubled_coe, ← EReal.coe_sub, Ideal.exp_coe, mass_coe, ← Real.exp_add]; rfl

variable {n : ℕ}

/-- Column `p` is the first at which the row is largest. -/
def First (x : Fin n → EReal) (p : Fin n) : Prop := (∀ q, x q ≤ x p) ∧ ∀ q < p, x q < x p

/-- There is such a column. -/
theorem exists_first (x : Fin n → EReal) (h : 0 < n) : ∃ p, First x p := by
  classical
  have hne : (Finset.univ : Finset (Fin n)).Nonempty := ⟨⟨0, h⟩, Finset.mem_univ _⟩
  obtain ⟨m, -, hm⟩ := Finset.exists_max_image Finset.univ x hne
  have hS : (Finset.univ.filter fun q => x q = x m).Nonempty := ⟨m, by simp⟩
  refine ⟨Finset.min' _ hS, fun q => ?_, fun q hq => ?_⟩
  · rw [(Finset.mem_filter.mp (Finset.min'_mem _ hS)).2]; exact hm q (Finset.mem_univ q)
  · rw [(Finset.mem_filter.mp (Finset.min'_mem _ hS)).2]
    refine lt_of_le_of_ne (hm q (Finset.mem_univ q)) fun e => ?_
    exact absurd (Finset.min'_le _ q (by simp [e])) (not_le.mpr hq)

/-- The largest of a row is its entry at a column where it is largest. -/
theorem sup_eq {y : Fin n → EReal} {p : Fin n} (h : ∀ q, y q ≤ y p) : Finset.univ.sup y = y p :=
  le_antisymm (Finset.sup_le fun q _ => h q) (Finset.le_sup (Finset.mem_univ p))

/-- The kernel's confidence. -/
def kernelConf (x : Fin n → EReal) : EReal := Ideal.div (Finset.univ.sup fun j => weight (x j)) (∑ j, weight (x j))
/-- The exponentials of the softmax. -/
def expo (x : Fin n → EReal) (j : Fin n) : EReal := Ideal.exp (doubled (x j) - Finset.univ.sup fun k => doubled (x k))
/-- The softmax. -/
def soft (x : Fin n → EReal) (j : Fin n) : EReal := Ideal.div (expo x j) (∑ k, expo x k)
/-- The softmax's confidence. -/
def softConf (x : Fin n → EReal) : EReal := Finset.univ.sup (soft x)

section Real
variable {x : Fin n → EReal} {p : Fin n} {M : ℝ} (hp : First x p) (hM : x p = (M : EReal))
include hp hM

/-- No entry is infinite, -/
theorem below_top (j : Fin n) : x j ≠ ⊤ :=
  ne_top_of_le_ne_top (by rw [hM]; exact EReal.coe_ne_top M) (hp.1 j)
/-- and the masses add up to a positive number. -/
theorem total_pos : 0 < ∑ j, mass (x j) :=
  Finset.sum_pos' (fun j _ => mass_nonneg _) ⟨p, Finset.mem_univ p, by rw [hM, mass_coe]; exact Real.exp_pos _⟩
/-- A sum of reals as extended reals. -/
theorem coe_sum (f : Fin n → ℝ) : ((∑ j, f j : ℝ) : EReal) = ∑ j, ((f j : ℝ) : EReal) :=
  map_sum (⟨⟨Real.toEReal, EReal.coe_zero⟩, EReal.coe_add⟩ : ℝ →+ EReal) f Finset.univ
/-- A quotient of reals as extended reals. -/
theorem div_real {a b : ℝ} (hb : b ≠ 0) : Ideal.div (a : EReal) (b : EReal) = ((a / b : ℝ) : EReal) := by
  rw [Ideal.div_coe hb, ← EReal.coe_mul, mul_one_div]
/-- At a real row the kernel's confidence, -/
theorem kernelConf_real : kernelConf x = ((mass (x p) / ∑ j, mass (x j) : ℝ) : EReal) := by
  have hw : ∀ j, weight (x j) = ((mass (x j) : ℝ) : EReal) := fun j => weight_eq (below_top hp hM j)
  rw [kernelConf, sup_eq (y := fun j => weight (x j)) (p := p) fun q => weight_mono (hp.1 q)]
  simp only [hw]
  rw [← coe_sum hp hM, div_real hp hM (total_pos hp hM).ne']
/-- the softmax, -/
theorem soft_real (j : Fin n) : soft x j = ((mass (x j) / ∑ k, mass (x k) : ℝ) : EReal) := by
  have he : ∀ k, expo x k = ((mass (x k) * Real.exp (-(2 * M)) : ℝ) : EReal) := fun k => by
    rw [expo, sup_eq (y := fun k => doubled (x k)) (p := p) fun q => doubled_mono (hp.1 q), hM]
    exact exp_sub (below_top hp hM k) M
  have ht : (0 : ℝ) < Real.exp (-(2 * M)) := Real.exp_pos _
  rw [soft]
  simp only [he]
  rw [← coe_sum hp hM, ← Finset.sum_mul, div_real hp hM (mul_pos (total_pos hp hM) ht).ne', mul_div_mul_right _ _ ht.ne']
/-- whose first largest column is the row's, -/
theorem soft_first : First (soft x) p := by
  have hA := total_pos hp hM
  refine ⟨fun q => ?_, fun q hq => ?_⟩
  · rw [soft_real hp hM, soft_real hp hM]
    exact EReal.coe_le_coe_iff.mpr ((div_le_div_iff_of_pos_right hA).mpr (mass_le (below_top hp hM p) (hp.1 q)))
  · rw [soft_real hp hM, soft_real hp hM]
    exact EReal.coe_lt_coe_iff.mpr ((div_lt_div_iff_of_pos_right hA).mpr (mass_lt (below_top hp hM p) (hp.2 q hq)))
/-- and the softmax's confidence are as on paper. -/
theorem softConf_real : softConf x = kernelConf x := by
  rw [softConf, sup_eq (soft_first hp hM).1, soft_real hp hM, kernelConf_real hp hM]
/-- The weights' largest is where an entry is the row's largest. -/
theorem weight_eq_iff (j : Fin n) : weight (x j) = weight (x p) ↔ x j = x p := by
  refine ⟨fun h => ?_, fun h => by rw [h]⟩
  rw [weight_eq (below_top hp hM j), weight_eq (below_top hp hM p)] at h
  by_contra hne
  exact absurd (EReal.coe_injective h) (mass_lt (below_top hp hM p) (lt_of_le_of_ne (hp.1 j) hne)).ne
end Real

/-- A quotient of zero by zero is `⊥`. -/
theorem div_zero_zero : Ideal.div 0 0 = ⊥ := by simp [Ideal.div]

section Wild
variable {x : Fin n → EReal} {p : Fin n} (hp : First x p)
include hp
/-- At a row whose largest entry is infinite the softmax is `⊥` throughout, -/
theorem softConf_wild (h : x p = ⊤ ∨ x p = ⊥) : softConf x = ⊥ := by
  have hs : (Finset.univ.sup fun k => doubled (x k)) = doubled (x p) :=
    sup_eq (y := fun k => doubled (x k)) (p := p) fun q => doubled_mono (hp.1 q)
  have he : ∀ k, expo x k = 0 := fun k => by
    rw [expo, hs]
    rcases h with h | h
    · rw [h, doubled_top, EReal.sub_top]; rfl
    · have hk : x k = ⊥ := le_bot_iff.mp (h ▸ hp.1 k)
      rw [hk, doubled_bot, EReal.bot_sub]; rfl
  rw [softConf, Finset.sup_eq_bot_iff]
  intro k _
  rw [soft]
  simp only [he, Finset.sum_const_zero, div_zero_zero]
/-- and the kernel's confidence is not positive. -/
theorem kernelConf_wild (h : x p = ⊤ ∨ x p = ⊥) : kernelConf x ≤ 0 := by
  rcases h with h | h
  · have hs : ∑ j, weight (x j) = ⊤ := by
      refine top_le_iff.mp ?_
      calc (⊤ : EReal) = weight (x p) := by rw [h, weight_top]
        _ ≤ ∑ j, weight (x j) := Finset.single_le_sum (fun j _ => weight_nonneg (x j)) (Finset.mem_univ p)
    rw [kernelConf, hs, Ideal.div, if_neg EReal.top_ne_zero, EReal.inv_top, mul_zero]
  · have hk : ∀ k, weight (x k) = 0 := fun k => by
      have hb : x k = ⊥ := le_bot_iff.mp (h ▸ hp.1 k)
      rw [hb, weight_bot]
    rw [kernelConf, sup_eq (y := fun j => weight (x j)) (p := p) fun q => weight_mono (hp.1 q)]
    simp only [hk, Finset.sum_const_zero, div_zero_zero, bot_le]
end Wild

end Cert.Rows

end
-- ==== Proof.Value.Pick.lean ====
/-
  The column that an arg-max returns: the first at which the row is largest. And with it one row's agreement: where its
  label, if it reaches the largest entry, is that column, the kernel and the softmax call the row correct alike.
-/
module

public import proofs.«01_k».proof.Proof.Value.Row
public import Idealize.ShloMosaic.PureOps.Ideal.Laws
public import Idealize.ShloMosaic.PureOps.Reduce
public import Idealize.ShloMosaic.Lib.IdealHost
public import proofs.«01_k».proof.ReferenceIdeal
public import proofs.«01_k».proof.Pre_label_first

@[expose] public section

set_option maxRecDepth 16384

noncomputable section

namespace Cert.Rows

open Idealize.ShloMosaic Idealize.ShloMosaic.ValueIdx

/-- The better of two (entry, column) pairs: the larger entry, at a tie the smaller column. -/
def pick (a b : EReal × BitVec 32) : EReal × BitVec 32 :=
  (if b.1 < a.1 then a.1 else b.1, if b.1 < a.1 ∨ (a.1 = b.1 ∧ a.2.slt b.2 = true) then a.2 else b.2)

/-- A bit is one when its truth value is true; -/
theorem bit_ne_zero (b : Bool) : (BitVec.ofBool b = 1) = (b = true) := by cases b <;> decide
/-- bits are joined -/
theorem bit_or (a b : Bool) : BitVec.ofBool a ||| BitVec.ofBool b = BitVec.ofBool (a || b) := by cases a <;> cases b <;> rfl
/-- and met as their truth values. -/
theorem bit_and (a b : Bool) : BitVec.ofBool a &&& BitVec.ofBool b = BitVec.ofBool (a && b) := by cases a <;> cases b <;> rfl

/-- The reference's reducer takes the better pair, -/
theorem reducer_eq : Cert.ReferenceIdeal.reducer_argmax_f32_i32 (F := Ideal) = pick := by
  funext a b
  unfold Cert.ReferenceIdeal.reducer_argmax_f32_i32 pick
  simp only [Ideal.cmpf_def, Ideal.cmp, IntOp.cmpi, IntOp.ori, IntOp.andi, bit_or, bit_and, Scalar.select, bit_ne_zero,
    ne_eq, not_true_eq_false, decide_false, Bool.or_false, Bool.or_eq_true, Bool.and_eq_true, decide_eq_true_eq]
/-- and so does the precondition's. -/
theorem pre_reducer_eq : Cert.Pre_label_first.reducer_argmax_f32_i32 (F := Ideal) = pick := reducer_eq

/-- A pair that loses to another. -/
def Beaten (best b : EReal × BitVec 32) : Prop := b.1 < best.1 ∨ (b.1 = best.1 ∧ best.2.slt b.2 = true)

/-- Of two words only one can be the smaller. -/
theorem slt_asymm {a b : BitVec 32} (h : a.slt b = true) : b.slt a = false := by
  simp only [BitVec.slt, decide_eq_true_eq, decide_eq_false_iff_not] at *; omega

/-- The better pair wins on either side. -/
theorem pick_best {best b : EReal × BitVec 32} (h : Beaten best b) : pick best b = best ∧ pick b best = best := by
  rcases h with h | ⟨h, hs⟩
  · exact ⟨by simp [pick, h], by simp [pick, h.not_gt, h.ne]⟩
  · exact ⟨by simp [pick, h, hs], by simp [pick, h, slt_asymm hs]⟩
/-- A pair against itself is itself. -/
theorem pick_self (b : EReal × BitVec 32) : pick b b = b := by simp [pick]
/-- The better of two pairs that lose to a third loses to it. -/
theorem pick_beaten {best a b : EReal × BitVec 32} (ha : Beaten best a) (hb : Beaten best b) : Beaten best (pick a b) := by
  by_cases h : b.1 < a.1
  · rwa [show pick a b = a by simp [pick, h]]
  · by_cases h' : a.1 = b.1 ∧ a.2.slt b.2 = true
    · rwa [show pick a b = a by ext <;> simp [pick, h'.1, h'.2]]
    · rwa [show pick a b = b by simp only [pick, if_neg h, if_neg (not_or.mpr ⟨h, h'⟩)]]

/-- The fold over pairs that all lose to the best, or are it, ends at the best once it has met it. -/
theorem fold_pick (best : EReal × BitVec 32) : ∀ (l : List (EReal × BitVec 32)) (a : EReal × BitVec 32),
    (∀ b ∈ l, b = best ∨ Beaten best b) → (a = best ∨ Beaten best a ∧ best ∈ l) → l.foldl pick a = best
  | [], a, _, h => h.elim id fun h => absurd h.2 List.not_mem_nil
  | b :: l, a, hl, h => by
    rw [List.foldl_cons]
    have hb := hl b (List.mem_cons_self ..)
    refine fold_pick best l _ (fun c hc => hl c (List.mem_cons_of_mem _ hc)) ?_
    rcases h with rfl | ⟨ha, hm⟩
    · rcases hb with rfl | hb
      · exact Or.inl (pick_self _)
      · exact Or.inl (pick_best hb).1
    · rcases hb with rfl | hb
      · exact Or.inl (pick_best ha).2
      · refine Or.inr ⟨pick_beaten ha hb, ?_⟩
        rcases List.mem_cons.mp hm with rfl | hm
        · rcases hb with h | ⟨_, h⟩
          · exact absurd h (lt_irrefl _)
          · exact absurd ((slt_asymm h).symm.trans h) (by simp)
        · exact hm

/-- Column numbers are ordered as words as they are as numbers. -/
theorem word_slt {a b : ℕ} (hb : b < 1000) (h : a < b) : (BitVec.ofNat 32 a).slt (BitVec.ofNat 32 b) = true := by
  simp only [BitVec.slt, decide_eq_true_eq]
  rw [BitVec.toInt_ofNat', BitVec.toInt_ofNat']; simp only [Int.bmod_def]; omega

/-- The word of minus infinity. -/
theorem ofBits_neg_inf : Ideal.ofBits .f32 0xFF800000#32 = ⊥ := by simp [Ideal.ofBits, Ideal.ieee]

open Cert.ReferenceIdeal in
/-- The arg-max of a row that is not all `⊥` is its first largest column. -/
theorem argmax_row (h : S100000x1000.ReducesTo [1] S100000) (hu : 0 < S_.numel) (f : EReal × BitVec 32 → EReal × BitVec 32 → EReal × BitVec 32)
    (hf : f = pick) (X : FVec Ideal S100000x1000 .f32) (r : Fin 100000) (p : Fin 1000)
    (hp : First (fun j => X (ix2 r j)) p) (hb : X (ix2 r p) ≠ ⊥) :
    (Host.argReduce f X (iotaInDim S100000x1000 32 1) (constant S_ .f32 0xFF800000#32) (constantI S_ 32 0#32) h hu (ix1 r)).2
      = BitVec.ofNat 32 p.val := by
  subst hf
  have key : Host.argReduce pick X (iotaInDim S100000x1000 32 1) (constant S_ .f32 0xFF800000#32) (constantI S_ 32 0#32) h hu (ix1 r)
      = ((X (ix2 r p), BitVec.ofNat 32 p.val) : EReal × BitVec 32) := by
    rw [Ideal.argReduce_eq_reduce2, Host.reduce2_eq_foldl_fiber]
    refine fold_pick _ _ _ (fun b hb => ?_) (Or.inr ⟨Or.inl ?_, ?_⟩)
    · obtain ⟨k, hk, rfl⟩ := List.mem_map.mp hb
      have hd := (List.mem_filter.mp hk).2
      simp only [decide_eq_true_eq] at hd
      generalize S100000x1000.rowMajor.symm k = i at hd ⊢
      have h0 : i = ix2 r (i 1) := by
        refine (eq_ix2 i).trans ?_
        have : i 0 = r := Fin.ext (((Shape.ReducesTo.drop_apply_val_of_eq h i 0 0).symm.trans (congrArg (fun j => (j 0).val) hd)))
        exact congrArg (fun a => ix2 (n0 := 100000) (n1 := 1000) a (i 1)) this
      generalize i 1 = q at h0
      subst h0
      show (X (ix2 r q), BitVec.ofNat 32 q.val) = _ ∨ Beaten _ (X (ix2 r q), BitVec.ofNat 32 q.val)
      rcases lt_trichotomy q p with hq | rfl | hq
      · exact Or.inr (Or.inl (hp.2 q hq))
      · exact Or.inl rfl
      · rcases (hp.1 q).lt_or_eq with hl | he
        · exact Or.inr (Or.inl hl)
        · exact Or.inr (Or.inr ⟨he, word_slt q.isLt hq⟩)
    · show Ideal.ofBits .f32 0xFF800000#32 < X (ix2 r p)
      rw [ofBits_neg_inf]; exact bot_lt_iff_ne_bot.mpr hb
    · refine List.mem_map.mpr ⟨S100000x1000.rowMajor (ix2 r p), List.mem_filter.mpr ⟨List.mem_finRange _, ?_⟩, ?_⟩
      · simp only [Equiv.symm_apply_apply, decide_eq_true_eq]
        refine (eq_ix1 _).trans (congrArg ix1 (Fin.ext ?_))
        exact Shape.ReducesTo.drop_apply_val_of_eq h (ix2 r p) 0 0
      · simp only [Equiv.symm_apply_apply]; rfl
  rw [key]

variable {n : ℕ}

/-- The kernel calls the row correct: the weight at the label's column is the largest. -/
def KernelHit (x : Fin n → EReal) (L : BitVec 32) : Prop :=
  (Finset.univ.sup fun j : Fin n => if BitVec.ofNat 32 j.val = L then weight (x j) else ⊥) = Finset.univ.sup fun j => weight (x j)

/-- At a real row: the label is a column of the largest entry. -/
theorem kernelHit_real {x : Fin n → EReal} {p : Fin n} {M : ℝ} (hp : First x p) (hM : x p = (M : EReal)) (L : BitVec 32) :
    KernelHit x L ↔ ∃ j : Fin n, BitVec.ofNat 32 j.val = L ∧ x j = x p := by
  unfold KernelHit
  rw [sup_eq (y := fun j => weight (x j)) (p := p) fun q => weight_mono (hp.1 q)]
  constructor
  · intro h
    obtain ⟨j, -, hj⟩ := Finset.exists_mem_eq_sup Finset.univ ⟨p, Finset.mem_univ p⟩ fun j : Fin n => if BitVec.ofNat 32 j.val = L then weight (x j) else ⊥
    rw [h] at hj
    split_ifs at hj with hL
    · exact ⟨j, hL, (weight_eq_iff hp hM j).mp hj.symm⟩
    · rw [hM, weight_coe] at hj; exact absurd hj (EReal.coe_ne_bot _)
  · rintro ⟨j, hL, hj⟩
    refine le_antisymm (Finset.sup_le fun q _ => ?_) ?_
    · split_ifs
      · exact weight_mono (hp.1 q)
      · exact bot_le
    · refine le_trans ?_ (Finset.le_sup (f := fun j : Fin n => if BitVec.ofNat 32 j.val = L then weight (x j) else ⊥) (Finset.mem_univ j))
      rw [if_pos hL, hj]

/-- A row where the label, if it reaches the largest entry, is the column `picked` of an arg-max of the row: the kernel's
    confidence and verdict are the softmax's, of which `chosen` is an arg-max, or neither confidence is positive. -/
theorem row_agree {x : Fin n → EReal} (hn : 0 < n) {L picked chosen : BitVec 32}
    (hpick : ∀ p, First x p → x p ≠ ⊥ → picked = BitVec.ofNat 32 p.val)
    (hchosen : ∀ p, First (soft x) p → soft x p ≠ ⊥ → chosen = BitVec.ofNat 32 p.val)
    (hpre : ∀ j : Fin n, x j < Finset.univ.sup x ∨ BitVec.ofNat 32 j.val ≠ L ∨ BitVec.ofNat 32 j.val = picked) :
    (kernelConf x = softConf x ∧ (KernelHit x L ↔ chosen = L)) ∨ (kernelConf x ≤ 0 ∧ softConf x ≤ 0) := by
  obtain ⟨p, hp⟩ := exists_first x hn
  rw [sup_eq hp.1] at hpre
  rcases hx : x p with _ | _ | M
  · exact Or.inr ⟨kernelConf_wild hp (Or.inr hx), by rw [softConf_wild hp (Or.inr hx)]; exact bot_le⟩
  · exact Or.inr ⟨kernelConf_wild hp (Or.inl hx), by rw [softConf_wild hp (Or.inl hx)]; exact bot_le⟩
  · have hM : x p = (M : EReal) := hx
    refine Or.inl ⟨(softConf_real hp hM).symm, ?_⟩
    rw [kernelHit_real hp hM, hchosen p (soft_first hp hM) (by rw [soft_real hp hM]; exact EReal.coe_ne_bot _)]
    have hk := hpick p hp (by rw [hM]; exact EReal.coe_ne_bot _)
    constructor
    · rintro ⟨j, hL, hj⟩
      rcases hpre j with h | h | h
      · exact absurd hj h.ne
      · exact absurd hL h
      · rw [← hk, ← h, hL]
    · exact fun h => ⟨p, h, rfl⟩

end Cert.Rows

end
-- ==== Proof.Value.Plain.lean ====
/-
  The reference's result over the extended reals: the sum over the ten bins of a term of three sums over the rows, each row
  by its softmax's confidence and by whether its label is the softmax's arg-max.
-/
module

public import proofs.«01_k».proof.Proof.Value.Pick
public import proofs.«01_k».proof.Proof.Reference.Front
public import Idealize.ShloMosaic.Lib.ValueIdxRank1
public import Idealize.ShloMosaic.Lib.Pipeline.Value

@[expose] public section

set_option maxRecDepth 16384

noncomputable section

namespace Cert.Rows

open Idealize.ShloMosaic Idealize.ShloMosaic.ValueIdx

/-- One where a confidence lies in a bin, zero elsewhere. -/
def gate (lo hi c : EReal) : EReal := if lo < c ∧ c ≤ hi then 1 else 0
/-- One where a row is correct, zero elsewhere. -/
def flag (p : Prop) [Decidable p] : EReal := if p then 1 else 0
/-- The number of rows. -/
def rows : EReal := Ideal.ofBits .f32 0x47C35000#32
/-- The operations of arrays at an index. -/
theorem addf_at {s : Shape} {φ : FTy} (a b : FVec Ideal s φ) (i : s.Idx) : addf a b i = a i + b i := rfl
@[inherit_doc addf_at] theorem subf_at {s : Shape} {φ : FTy} (a b : FVec Ideal s φ) (i : s.Idx) : subf a b i = a i - b i := rfl
@[inherit_doc addf_at] theorem mulf_at {s : Shape} {φ : FTy} (a b : FVec Ideal s φ) (i : s.Idx) : mulf a b i = a i * b i := rfl
@[inherit_doc addf_at] theorem maximumf_at {s : Shape} {φ : FTy} (a b : FVec Ideal s φ) (i : s.Idx) : maximumf a b i = max (a i) (b i) := rfl
@[inherit_doc addf_at] theorem hostExp_at {s : Shape} {φ : FTy} (a : FVec Ideal s φ) (i : s.Idx) : Host.exp a i = Ideal.exp (a i) := rfl
@[inherit_doc addf_at] theorem constant_at {s : Shape} {φ : FTy} (b : BitVec φ.bits) (i : s.Idx) : constant (F := Ideal) s φ b i = Ideal.ofBits φ b := rfl
/-- A bin's term, from its count, its correct rows and its summed confidence. -/
def binError (n a s : EReal) : EReal :=
  if 0 < n then max (Ideal.div s (max n 1) - Ideal.div a (max n 1)) (-(Ideal.div s (max n 1) - Ideal.div a (max n 1))) * Ideal.div n rows else 0

/-- Equal parts give equal terms. -/
theorem binError_congr {n n' a a' s s' : EReal} (hn : n = n') (ha : a = a') (hs : s = s') : binError n a s = binError n' a' s' := by
  rw [hn, ha, hs]

end Cert.Rows

namespace Cert.ReferenceIdeal.Ece

open Cert.ReferenceIdeal Cert.ReferenceIdeal.Gen Cert.Rows
open Idealize.ShloMosaic Idealize.ShloMosaic.ValueIdx

/-- A row of a matrix. -/
abbrev row (X : FVec Ideal S100000x1000 .f32) (r : Fin 100000) : Fin 1000 → EReal := fun j => X (ix2 r j)

/-- Reducing along a row leaves a column, -/
theorem reduces_rows : S100000x1000.Reduces [1] S100000 := by decide

/-- whose entry `r` comes from the entries `(r, j)`. -/
theorem lift_rows (r : Fin 100000) (j : Fin 1000) : reduces_rows.lift (ix1 r) j = ix2 r j := Shape.idx_ext₂ rfl rfl

/-- The word of one half. -/
theorem ofBits_half : Ideal.ofBits .f32 0x3F000000#32 = ((1 / 2 : ℝ) : EReal) := by
  simp [Ideal.ofBits, Ideal.ieee, -EReal.coe_mul]; norm_num

/-- Dividing by one half doubles. -/
theorem scaled_apply (X : FVec Ideal S100000x1000 .f32) (i : S100000x1000.Idx) : scaled (F := Ideal) X i = doubled (X i) := by
  unfold scaled
  rw [hostDivf_apply, broadcastInDim_scalar_apply]
  exact congrArg (Ideal.div (X i)) ofBits_half

/-- The largest entry of a row. -/
theorem rowMax_apply (X : FVec Ideal S100000x1000 .f32) (r : Fin 100000) : rowMax (F := Ideal) X (ix1 r) = Finset.univ.sup (row X r) := by
  unfold rowMax
  rw [Host.reduce_eq_fold_single _ _ _ _ reduces_rows]
  rw [constant_at, ofBits_neg_inf, show X ∘ reduces_rows.lift (ix1 r) = row X r from funext fun j => congrArg X (lift_rows r j)]
  rfl

/-- A column's number at every place of its row. -/
theorem spread_apply (v : FVec Ideal S100000 .f32) (r : Fin 100000) (j : Fin 1000) : spread (F := Ideal) v (ix2 r j) = v (ix1 r) := by
  unfold spread
  rw [broadcastInDim_apply _ _ _ (ix2 r j) (ix2 r 0) (by intro a; fin_cases a <;> rfl),
    broadcastInDim_apply _ _ _ (ix2 r 0) (ix1 r) (by intro a; fin_cases a; rfl)]

/-- A row's shifted exponentials, -/
theorem exps_apply (X : FVec Ideal S100000x1000 .f32) (r : Fin 100000) (j : Fin 1000) : exps (F := Ideal) X (ix2 r j) = expo (row X r) j := by
  unfold exps
  rw [hostExp_at, subf_at, spread_apply, scaled_apply, maximumf_at, broadcastInDim_scalar_apply, rowMax_apply, constant_at, ofBits_neg_inf,
    max_eq_right bot_le]
  unfold expo row
  simp only [scaled_apply]

/-- their sum, -/
theorem sumRows_apply (X : FVec Ideal S100000x1000 .f32) (r : Fin 100000) :
    Host.reduceAdd X (constant S_ .f32 0x00000000#32) reducesTo_S100000x1000_S100000_d1 h_S_ (ix1 r) = ∑ j, row X r j := by
  rw [hostReduceAdd_apply, Ideal.hostReduceAdd_single _ reduces_rows]
  rw [constant_at, Ideal.ofBits_zero_f32, zero_add]
  exact Finset.sum_congr rfl fun j _ => congrArg X (lift_rows r j)

/-- and their quotient, the softmax. -/
theorem soft_apply (X : FVec Ideal S100000x1000 .f32) (r : Fin 100000) (j : Fin 1000) :
    Ece.soft (F := Ideal) X (ix2 r j) = Rows.soft (row X r) j := by
  unfold Ece.soft
  rw [hostDivf_apply, spread_apply, sumRows_apply, exps_apply]
  unfold Rows.soft row
  simp only [exps_apply]

/-- The confidence of a row. -/
theorem conf_apply (X : FVec Ideal S100000x1000 .f32) (r : Fin 100000) : rowMax (F := Ideal) (Ece.soft X) (ix1 r) = softConf (row X r) := by
  rw [rowMax_apply]
  unfold softConf row
  simp only [soft_apply]

/-- The prediction, unfolded. -/
theorem picked_eq (X : FVec Ideal S100000x1000 .f32) : picked (F := Ideal) X
   = fun j => (Host.argReduce (Cert.ReferenceIdeal.reducer_argmax_f32_i32 (F := Ideal)) X (iotaInDim S100000x1000 32 1) (constant S_ .f32 0xFF800000#32) (constantI S_ 32 0#32) reducesTo_S100000x1000_S100000_d1 h_S_ j).2 := rfl

/-- The arg-max of a matrix's row. -/
theorem picked_apply (X : FVec Ideal S100000x1000 .f32) (r : Fin 100000) (p : Fin 1000) (hp : First (row X r) p) (hb : X (ix2 r p) ≠ ⊥) :
    picked (F := Ideal) X (ix1 r) = BitVec.ofNat 32 p.val :=
  (congrFun (picked_eq X) (ix1 r)).trans (argmax_row _ _ _ reducer_eq X r p hp hb)

/-- A bit as a number. -/
theorem ofBool_toReal (b : Bool) : (((BitVec.ofBool b).toNat : ℝ) : EReal) = if b = true then 1 else 0 := by
  cases b <;> simp

/-- Whether a row is correct. -/
theorem right_apply (X : FVec Ideal S100000x1000 .f32) (L : IVec S100000 32) (r : Fin 100000) :
    right (F := Ideal) X L (ix1 r) = flag (picked (F := Ideal) (Ece.soft X) (ix1 r) = L (ix1 r)) := by
  show (((BitVec.ofBool (picked (F := Ideal) (Ece.soft X) (ix1 r) == L (ix1 r))).toNat : ℝ) : EReal) = _
  rw [ofBool_toReal]
  unfold flag
  simp only [beq_iff_eq]

/-- One of the bounds. -/
theorem edge_apply (E : FVec Ideal S11 .f32) (k : Fin 11) : edge (F := Ideal) E k ix0 = E (ix1 k) := by
  unfold edge
  rw [shapeCast_apply _ _ ix0 (ix1 0) (by rfl), extractStridedSlice_apply _ _ _ (ix1 0) (ix1 k) (by intro a; fin_cases a; rfl)]

/-- Whether a row lies in a bin. -/
theorem inBin_apply (C : FVec Ideal S100000 .f32) (E : FVec Ideal S11 .f32) (i : Fin 10) (r : Fin 100000) :
    inBin (F := Ideal) C E i (ix1 r) = gate (E (ix1 (low i))) (E (ix1 (high i))) (C (ix1 r)) := by
  show (((BitVec.ofBool (decide (broadcastInDim S100000 ![] _ (edge (F := Ideal) E (low i)) (ix1 r) < C (ix1 r)))
    &&& BitVec.ofBool (decide (C (ix1 r) ≤ broadcastInDim S100000 ![] _ (edge (F := Ideal) E (high i)) (ix1 r)))).toNat : ℝ) : EReal) = _
  rw [bit_and, ofBool_toReal, broadcastInDim_scalar_apply, broadcastInDim_scalar_apply, edge_apply, edge_apply]
  unfold gate
  simp only [Bool.and_eq_true, decide_eq_true_eq]

/-- The sum of a column is the sum over its rows. -/
theorem total_apply (X : FVec Ideal S100000 .f32) (i : S_.Idx) : total (F := Ideal) X i = ∑ r : Fin 100000, X (ix1 r) := by
  unfold total
  rw [hostReduceAdd_apply, Ideal.hostReduceAdd_total _ (by decide)]
  rw [constant_at, Ideal.ofBits_zero_f32, zero_add]
  exact Fintype.sum_equiv idxEquiv1 _ _ fun i => congrArg X (eq_ix1 i)

/-- A bin's term. -/
theorem term_apply (n a s : FVec Ideal S_ .f32) (i : S_.Idx) : term (F := Ideal) n a s i = binError (n i) (a i) (s i) := by
  unfold term binError
  show (if BitVec.ofBool (decide (Ideal.ofBits .f32 0x00000000#32 < n i)) = 1
    then max (Ideal.div (s i) (max (n i) (Ideal.ofBits .f32 0x3F800000#32)) - Ideal.div (a i) (max (n i) (Ideal.ofBits .f32 0x3F800000#32)))
        (-(Ideal.div (s i) (max (n i) (Ideal.ofBits .f32 0x3F800000#32)) - Ideal.div (a i) (max (n i) (Ideal.ofBits .f32 0x3F800000#32)))) * Ideal.div (n i) rows
    else Ideal.ofBits .f32 0x00000000#32) = _
  rw [Ideal.ofBits_zero_f32, Ideal.ofBits_one_f32]
  simp only [bit_ne_zero, decide_eq_true_eq]

/-- The sum of the first bins' terms. -/
theorem summed_apply (C A : FVec Ideal S100000 .f32) (E : FVec Ideal S11 .f32) (j : S1.Idx) : ∀ (k : Nat) (h : k ≤ 10),
    summed (F := Ideal) C A E k h j = ∑ i : Fin k, binTerm (F := Ideal) C A E ⟨i.val, by omega⟩ ix0
  | 0, h => by
    unfold summed
    rw [broadcastInDim_scalar_apply]
    rw [constant_at, Ideal.ofBits_zero_f32, Finset.sum_of_isEmpty]
  | k + 1, h => by
    rw [Fin.sum_univ_castSucc, summed]
    rw [addf_at, summed_apply C A E j k (by omega), broadcastInDim_scalar_apply]
    congr 1

/-- The reference's result: the ten bins' terms, each of three sums over the rows. -/
theorem summed_value (X : FVec Ideal S100000x1000 .f32) (L : IVec S100000 32) (E : FVec Ideal S11 .f32) (j : S1.Idx) :
    summed (F := Ideal) (rowMax (Ece.soft X)) (right X L) E 10 le_rfl j
      = ∑ i : Fin 10, binError
          (∑ r : Fin 100000, gate (E (ix1 (low i))) (E (ix1 (high i))) (softConf (row X r)))
          (∑ r : Fin 100000, flag (picked (F := Ideal) (Ece.soft X) (ix1 r) = L (ix1 r)) * gate (E (ix1 (low i))) (E (ix1 (high i))) (softConf (row X r)))
          (∑ r : Fin 100000, softConf (row X r) * gate (E (ix1 (low i))) (E (ix1 (high i))) (softConf (row X r))) := by
  rw [summed_apply]
  refine Finset.sum_congr rfl fun i _ => ?_
  show binTerm (F := Ideal) _ _ _ i ix0 = _
  unfold binTerm
  rw [term_apply, total_apply, total_apply, total_apply]
  refine binError_congr ?_ ?_ ?_
  · exact Finset.sum_congr rfl fun r _ => by rw [inBin_apply, conf_apply]
  · refine Finset.sum_congr rfl fun r _ => ?_
    rw [mulf_at, inBin_apply, conf_apply, right_apply]
  · refine Finset.sum_congr rfl fun r _ => ?_
    rw [mulf_at, inBin_apply, conf_apply]

end Cert.ReferenceIdeal.Ece

end
-- ==== Proof.Value.Tile.lean ====
/-
  What one block of 2000 rows of logits contributes, over the extended reals: at each of its rows the confidence and the
  correctness of the row's logits, and for each bin the sums of them over the block's rows.
-/
module

public import proofs.«01_k».proof.Proof.Value.Plain
public import proofs.«01_k».proof.Proof.Ideal.Step
public import Idealize.ShloMosaic.Lib.MatmulPlain

@[expose] public section

set_option maxRecDepth 16384
set_option backward.isDefEq.respectTransparency.types false

noncomputable section

namespace Cert.Rows

open Idealize.ShloMosaic Idealize.ShloMosaic.ValueIdx

@[inherit_doc addf_at] theorem divf_at {s : Shape} {φ : FTy} (a b : FVec Ideal s φ) (i : s.Idx) : divf a b i = Ideal.div (a i) (b i) := rfl
@[inherit_doc addf_at] theorem exp2_at {s : Shape} {φ : FTy} (a : FVec Ideal s φ) (i : s.Idx) : exp2 a i = Ideal.exp2 (a i) := rfl
@[inherit_doc addf_at] theorem andi_at {s : Shape} {w : Nat} (a b : IVec s w) (i : s.Idx) : andi a b i = a i &&& b i := rfl
/-- A comparison of extended reals is a bit. -/
theorem ogt_at {φ : FTy} (a b : Ideal φ) : FloatOps.cmpf (F := Ideal) .ogt a b = BitVec.ofBool (decide ((b : EReal) < a)) := rfl
@[inherit_doc ogt_at] theorem ole_at {φ : FTy} (a b : Ideal φ) : FloatOps.cmpf (F := Ideal) .ole a b = BitVec.ofBool (decide ((a : EReal) ≤ b)) := rfl
@[inherit_doc ogt_at] theorem oeq_at {φ : FTy} (a b : Ideal φ) : FloatOps.cmpf (F := Ideal) .oeq a b = BitVec.ofBool (decide ((a : EReal) = b)) := rfl
/-- A widened bit as a number. -/
theorem wide_bit {φ : FTy} (b : Bool) : (FloatOps.sitofp (F := Ideal) φ ((BitVec.ofBool b).setWidth 32) : EReal) = if b = true then 1 else 0 := by
  show ((((BitVec.ofBool b).setWidth 32).toInt : ℝ) : EReal) = _
  cases b <;> simp

end Cert.Rows

namespace Cert.KernelIdeal.Ece

open Cert.KernelIdeal Cert.KernelIdeal.Gen Cert.Rows
open Idealize.ShloMosaic Idealize.ShloMosaic.ValueIdx

/-- A row of a block. -/
abbrev line (v : FVec Ideal S1x2000x1000 .f32) (i : Fin 2000) : Fin 1000 → EReal := fun j => v (ix3 0 i j)

/-- Reducing along a line of the block leaves a column, -/
theorem reduces_lines : S2000x1000.Reduces [1] S2000 := by decide
/-- whose entry `i` comes from the entries `(i, j)`. -/
theorem lift_lines (i : Fin 2000) (j : Fin 1000) : reduces_lines.lift (ix1 i) j = ix2 i j := Shape.idx_ext₂ rfl rfl
/-- Reducing over the lines leaves a row of ten, -/
theorem reduces_marks : S2000x10.Reduces [0] S10 := by decide
/-- whose entry `k` comes from the entries `(i, k)`. -/
theorem lift_marks (k : Fin 10) (i : Fin 2000) : reduces_marks.lift (ix1 k) i = ix2 i k := Shape.idx_ext₂ rfl rfl

/-- The largest entry of each row of a block, as the kernel takes it. -/
theorem lineMax_apply (x : FVec Ideal S2000x1000 .f32) (h) (hφ) (hacc) (hc) (i : Fin 2000) :
    shapeCast S2000x1 (multiReduction .maximumf [1] S2000 x 0xFF800000#32 h hφ hacc) hc (ix2 i 0) = Finset.univ.sup fun j => x (ix2 i j) := by
  rw [shapeCast_apply _ _ (ix2 i 0) (ix1 i) (by rfl), Ideal.multiReduction_maximumf_single]
  rw [show x ∘ h.lift (ix1 i) = fun j => x (ix2 i j) from funext fun j => congrArg x (lift_lines i j)]
  rw [show (FloatOps.ofBits (F := Ideal) .f32 0xFF800000#32 : EReal) = ⊥ from ofBits_neg_inf]
  rfl

/-- The sum of each column of a block's marks, as the kernel takes it. -/
theorem markSum_apply (x : FVec Ideal S2000x10 .f32) (h) (hφ) (hacc) (hc) (k : Fin 10) :
    shapeCast S1x10 (multiReduction .add [0] S10 x 0x00000000#32 h hφ hacc) hc (ix2 0 k) = ∑ i : Fin 2000, x (ix2 i k) := by
  rw [shapeCast_apply _ _ (ix2 0 k) (ix1 k) (by rw [Shape.rowMajor_val_one, Shape.rowMajor_val_two]; simp), Ideal.multiReduction_add_single]
  exact Finset.sum_congr rfl fun i _ => congrArg x (lift_marks k i)

/-- The kernel's constant is two over the logarithm of two. -/
theorem rate_named : (Named.named (F := Ideal) (φ := .f32) κ "two_log2_e" 0x4038AA3B#32 : EReal) = rate :=
  IdealRules.named_const.ideal_named_scalar _ _ _ _ rfl

/-- The body's exponentials are the weights of the entries, -/
theorem weight_apply (v : FVec Ideal S1x2000x1000 .f32) (i : Fin 2000) (j : Fin 1000) : k0_pay4 (F := Ideal) v (ix2 i j) = weight (line v i j) := by
  unfold k0_pay4
  rw [exp2_at, mulf_at, shapeCast_apply _ _ (ix2 i j) (ix3 0 i j) (by rw [Shape.rowMajor_val_three, Shape.rowMajor_val_two]; simp), broadcast_apply, rate_named]
  rfl

/-- their largest is the largest weight of the line, -/
theorem top_apply (v : FVec Ideal S1x2000x1000 .f32) (i : Fin 2000) :
    k0_pay5 (F := Ideal) v (ix2 i 0) = Finset.univ.sup fun j => weight (line v i j) := by
  unfold k0_pay5
  rw [lineMax_apply]
  simp only [weight_apply]

/-- and the product with ones is the line's sum of weights. -/
theorem mass_apply (v : FVec Ideal S1x2000x1000 .f32) (i : Fin 2000) :
    k0_pay6 (F := Ideal) v (ix2 i 0) = ∑ j, weight (line v i j) := by
  unfold k0_pay6
  rw [extractStridedSlice_apply _ _ _ (ix2 i 0) (ix2 i 0) (by intro a; fin_cases a <;> simp)]
  rw [show dot_S2000x1000_S1000x8_S2000x8_1_0_0_1_n_n = DotDims.plain 2000 1000 8 from rfl]
  refine (Ideal.matmul_plain_apply none _ _ _ i 0).trans ?_
  rw [constant_at, Ideal.ofBits_zero_f32, zero_add]
  refine Finset.sum_congr rfl fun j _ => ?_
  rw [weight_apply, broadcast_apply]
  refine (congrArg (weight (line v i j) * ·) Ideal.ofBits_one_f32).trans (mul_one _)

/-- The confidence of a row of a block. -/
theorem conf_apply (v : FVec Ideal S1x2000x1000 .f32) (i : Fin 2000) :
    k0_pay9 (F := Ideal) (k0_pay5 v) (k0_pay6 v) (ix2 i 0) = kernelConf (line v i) := by
  unfold k0_pay9
  rw [divf_at, top_apply, mass_apply]
  rfl

/-- A column spread over the bins. -/
theorem column_apply (x : FVec Ideal S2000x1 .f32) (h) (i : Fin 2000) (k : Fin 10) : broadcastTo S2000x10 x h (ix2 i k) = x (ix2 i 0) :=
  broadcastTo_apply _ _ _ _ (by intro a; fin_cases a <;> rfl)
/-- A row of bin bounds spread over a block's rows. -/
theorem bound_apply (x : FVec Ideal S1x10 .f32) (h) (i : Fin 2000) (k : Fin 10) : broadcastTo S2000x10 x h (ix2 i k) = x (ix2 0 k) :=
  broadcastTo_apply _ _ _ _ (by intro a; fin_cases a <;> rfl)

variable (v : FVec Ideal S1x2000x1000 .f32) (lo hi : FVec Ideal S1x10 .f32)

/-- Whether a row of a block lies in a bin. -/
theorem mark_apply (i : Fin 2000) (k : Fin 10) :
    k0_pay10 (F := Ideal) (k0_pay5 v) (k0_pay6 v) lo hi (ix2 i k) = gate (lo (ix2 0 k)) (hi (ix2 0 k)) (kernelConf (line v i)) := by
  unfold k0_pay10
  rw [sitofp_apply, extui_apply, andi_at, cmpf_apply, cmpf_apply, column_apply, bound_apply, bound_apply, conf_apply, shapeCast_self, shapeCast_self,
    ogt_at, ole_at, bit_and, wide_bit]
  unfold gate
  simp only [Bool.and_eq_true, decide_eq_true_eq]

/-- The counts after a block. -/
theorem counts_apply (b : FVec Ideal S1x10 .f32) (k : Fin 10) :
    k0_pay11 (F := Ideal) (k0_pay5 v) (k0_pay6 v) lo hi b (ix2 0 k)
      = b (ix2 0 k) + ∑ i, gate (lo (ix2 0 k)) (hi (ix2 0 k)) (kernelConf (line v i)) := by
  unfold k0_pay11
  rw [addf_at, markSum_apply, shapeCast_self]
  simp only [mark_apply]

/-- The summed confidences of a block. -/
theorem confs_apply (k : Fin 10) :
    k0_pay14 (F := Ideal) (k0_pay5 v) (k0_pay6 v) lo hi (ix2 0 k)
      = ∑ i, kernelConf (line v i) * gate (lo (ix2 0 k)) (hi (ix2 0 k)) (kernelConf (line v i)) := by
  unfold k0_pay14
  rw [markSum_apply]
  refine Finset.sum_congr rfl fun i _ => ?_
  rw [mulf_at, column_apply, conf_apply, mark_apply]

/-- Whether a column of a block is its row's label. -/
theorem chosen_apply (L : IVec S2000x1 32) (i : Fin 2000) (j : Fin 1000) :
    k0_pay7 (F := Ideal) L (ix2 i j) = BitVec.ofBool (BitVec.ofNat 32 j.val == L (ix2 i 0)) := by
  unfold k0_pay7
  show BitVec.ofBool (broadcastTo S2000x1000 _ _ (ix2 i j) == broadcastTo S2000x1000 _ _ (ix2 i j)) = _
  rw [broadcastTo_apply _ _ (ix2 i j) (ix2 0 j) (by intro a; fin_cases a <;> rfl),
    broadcastTo_apply _ _ (ix2 i j) (ix2 i 0) (by intro a; fin_cases a <;> rfl), iota_single_apply, shapeCast_self]

open Classical in
/-- The correct rows after a block. -/
theorem corrects_apply (L : IVec S2000x1 32) (b : FVec Ideal S1x10 .f32) (k : Fin 10) :
    k0_pay12 (F := Ideal) (k0_pay4 v) (k0_pay5 v) (k0_pay6 v) (k0_pay7 (F := Ideal) L) k0_pay8 lo hi b (ix2 0 k)
      = b (ix2 0 k) + ∑ i, flag (KernelHit (line v i) (L (ix2 i 0))) * gate (lo (ix2 0 k)) (hi (ix2 0 k)) (kernelConf (line v i)) := by
  unfold k0_pay12
  rw [addf_at, markSum_apply, shapeCast_self]
  refine congrArg (b (ix2 0 k) + ·) (Finset.sum_congr rfl fun i _ => ?_)
  rw [mulf_at, column_apply, mark_apply, sitofp_apply, extui_apply, cmpf_apply, lineMax_apply, top_apply, oeq_at, wide_bit]
  refine congrArg (· * _) ?_
  unfold flag KernelHit
  simp only [decide_eq_true_eq]
  have hs : ∀ j, select (k0_pay7 (F := Ideal) L) (k0_pay4 v) (k0_pay8 (F := Ideal)) (ix2 i j)
      = if BitVec.ofNat 32 j.val = L (ix2 i 0) then weight (line v i j) else ⊥ := by
    intro j
    rw [select_apply, chosen_apply, weight_apply]
    unfold Scalar.select k0_pay8
    rw [broadcast_apply]
    simp only [bit_ne_zero, beq_iff_eq]
    rw [show (Scalar.ofBits .f32 0xFF800000#32 : Ideal .f32) = (⊥ : EReal) from ofBits_neg_inf]
  simp only [hs]
  congr

end Cert.KernelIdeal.Ece

end
-- ==== Proof.Value.Point.lean ====
/-
  What one grid point does to each entry of the bins, over the extended reals, and the result from the final bins.
-/
module

public import proofs.«01_k».proof.Proof.Value.Tile

@[expose] public section

set_option maxRecDepth 16384
set_option backward.isDefEq.respectTransparency.types false

noncomputable section

namespace Cert.KernelIdeal.Ece

open Cert.KernelIdeal Cert.KernelIdeal.Gen Cert.Rows
open Idealize.ShloMosaic Idealize.ShloMosaic.ValueIdx

/-- An absolute value at an index. -/
theorem absf_at {s : Shape} {φ : FTy} (a : FVec Ideal s φ) (i : s.Idx) : absf a i = max (a i) (-(a i)) := rfl

/-- Bin `k`'s lower and upper bound, of the row of bounds the kernel holds. -/
def lower (x1 : FVec Ideal S1x11 .f32) (k : Fin 10) : EReal := x1 (ix2 0 k.castSucc)
@[inherit_doc lower] def upper (x1 : FVec Ideal S1x11 .f32) (k : Fin 10) : EReal := x1 (ix2 0 k.succ)

/-- The body's lower bounds, entry by entry, -/
theorem lows_apply (x1 : FVec Ideal S1x11 .f32) (k : Fin 10) : lows (F := Ideal) x1 (ix2 0 k) = lower x1 k :=
  congrArg x1 (Shape.idx_ext₂ rfl (by simp))
/-- and its upper bounds. -/
theorem highs_apply (x1 : FVec Ideal S1x11 .f32) (k : Fin 10) : highs (F := Ideal) x1 (ix2 0 k) = upper x1 k :=
  congrArg x1 (Shape.idx_ext₂ rfl ((by simp : _ = 1 + (k.val)).trans (Nat.add_comm _ _)))

/-- A row of the bins, as the body loads it. -/
theorem row0_apply (b : FVec Ideal S3x10 .f32) (k : Fin 10) : View.ld (Val := Elt Ideal) (e' := .f32) b row0 (ix2 0 k) = b (ix2 0 k) :=
  congrArg b (Shape.idx_ext₂ rfl (by simp))
@[inherit_doc row0_apply] theorem row1_apply (b : FVec Ideal S3x10 .f32) (k : Fin 10) : View.ld (Val := Elt Ideal) (e' := .f32) b row1 (ix2 0 k) = b (ix2 1 k) :=
  congrArg b (Shape.idx_ext₂ rfl (by simp))
@[inherit_doc row0_apply] theorem row2_apply (b : FVec Ideal S3x10 .f32) (k : Fin 10) : View.ld (Val := Elt Ideal) (e' := .f32) b row2 (ix2 0 k) = b (ix2 2 k) :=
  congrArg b (Shape.idx_ext₂ rfl (by simp))

open Classical in
/-- What a row of confidence logits `x` and label `L` adds to the three sums of a bin. -/
def share (lo hi : EReal) (x : Fin 1000 → EReal) (L : BitVec 32) : Fin 3 → EReal :=
  ![gate lo hi (kernelConf x), flag (KernelHit x L) * gate lo hi (kernelConf x), kernelConf x * gate lo hi (kernelConf x)]

/-- A point adds each of its block's rows' share to the bins. -/
theorem step_apply (x0 : IVec S2000x1 32) (x1 : FVec Ideal S1x11 .f32) (v : FVec Ideal S1x2000x1000 .f32) (b : FVec Ideal S3x10 .f32) (a : Fin 3) (k : Fin 10) :
    step (F := Ideal) x0 x1 v b (ix2 a k) = b (ix2 a k) + ∑ i, share (lower x1 k) (upper x1 k) (line v i) (x0 (ix2 i 0)) a := by
  unfold step
  refine View.canon_apply_of_pieces (Val := Elt Ideal) (fun y => b (ix2 (y 0) (y 1)) + ∑ i, share (lower x1 (y 1)) (upper x1 (y 1)) (line v i) (x0 (ix2 i 0)) (y 0)) _ ?_ _ (pieces_cover _ _ _ _ _ _ _)
  intro p hp x
  simp only [pieces, List.mem_cons, List.not_mem_nil, or_false] at hp
  rcases hp with rfl | rfl | rfl
  · obtain ⟨u, k, rfl⟩ : ∃ u k, x = ix2 u k := ⟨_, _, eq_ix2 x⟩
    obtain rfl : u = 0 := Subsingleton.elim _ _
    rw [show row2.emb (ix2 0 k) = ix2 2 k from Shape.idx_ext₂ (x := row2.idx (ix2 0 k)) rfl (by simp)]
    show k0_pay1 (F := Ideal) _ _ (ix2 0 k) = _
    unfold k0_pay1 k0_pay13
    rw [addf_at, shapeCast_self, row2_apply, confs_apply, lows_apply, highs_apply]
    rfl
  · obtain ⟨u, k, rfl⟩ : ∃ u k, x = ix2 u k := ⟨_, _, eq_ix2 x⟩
    obtain rfl : u = 0 := Subsingleton.elim _ _
    rw [show row1.emb (ix2 0 k) = ix2 1 k from Shape.idx_ext₂ (x := row1.idx (ix2 0 k)) rfl (by simp)]
    refine (corrects_apply v _ _ x0 _ k).trans ?_
    rw [row1_apply, lows_apply, highs_apply]
    rfl
  · obtain ⟨u, k, rfl⟩ : ∃ u k, x = ix2 u k := ⟨_, _, eq_ix2 x⟩
    obtain rfl : u = 0 := Subsingleton.elim _ _
    rw [show row0.emb (ix2 0 k) = ix2 0 k from Shape.idx_ext₂ (x := row0.idx (ix2 0 k)) rfl (by simp)]
    refine (counts_apply v _ _ _ k).trans ?_
    rw [row0_apply, lows_apply, highs_apply]
    rfl

/-- The bins start at zero. -/
theorem clear_apply (i : S3x10.Idx) : k0_pay3 (F := Ideal) i = (0 : EReal) := by
  unfold k0_pay3
  rw [broadcast_apply]
  exact Ideal.ofBits_zero_f32

/-- The result is the sum of the ten bins' terms. -/
theorem result_apply (b : FVec Ideal S3x10 .f32) (j : S1x1.Idx) :
    result (F := Ideal) b j = ∑ k : Fin 10, binError (b (ix2 0 k)) (b (ix2 1 k)) (b (ix2 2 k)) := by
  unfold result k0_pay2
  rw [broadcast_apply]
  unfold extractAt
  rw [shapeCast_apply _ _ _ (ix1 0) (by rfl), Ideal.multiReduction_add_total _ _ _ (by decide)]
  refine Fintype.sum_equiv ⟨fun i => i 2, fun k => ix3 0 0 k, fun i => ?_, fun k => rfl⟩ _ _ fun i => ?_
  · obtain ⟨u, w, k, rfl⟩ : ∃ u w k, i = ix3 u w k := ⟨_, _, _, eq_ix3 i⟩
    obtain rfl : u = 0 := Subsingleton.elim _ _
    obtain rfl : w = 0 := Subsingleton.elim _ _
    rfl
  · obtain ⟨u, w, k, rfl⟩ : ∃ u w k, i = ix3 u w k := ⟨_, _, _, eq_ix3 i⟩
    rw [shapeCast_apply _ _ (ix3 u w k) (ix2 0 k) (by rw [Shape.rowMajor_val_three, Shape.rowMajor_val_two]; simp), select_apply]
    rw [cmpf_apply, mulf_at, divf_at, absf_at, subf_at, divf_at, divf_at, maximumf_at, broadcast_apply, broadcast_apply, broadcast_apply,
      shapeCast_self, shapeCast_self, shapeCast_self, row0_apply, row1_apply, row2_apply, ogt_at]
    unfold Scalar.select binError
    rw [show (Scalar.ofBits .f32 0x00000000#32 : Ideal .f32) = (0 : EReal) from Ideal.ofBits_zero_f32,
      show (Scalar.ofBits .f32 0x3F800000#32 : Ideal .f32) = (1 : EReal) from Ideal.ofBits_one_f32]
    simp only [bit_ne_zero, decide_eq_true_eq]
    rfl

end Cert.KernelIdeal.Ece

end
-- ==== Proof.Value.Blocks.lean ====
/-
  What the grid points are given, entry by entry: the labels of a block of rows, the row of bin bounds, and the logits of
  that block.
-/
module

public import proofs.«01_k».proof.Proof.Value.Host
public import proofs.«01_k».proof.Proof.Value.Point
public import Idealize.ShloMosaic.Lib.Pipeline.ValueKit.Geometry

@[expose] public section

set_option maxRecDepth 16384
set_option backward.isDefEq.respectTransparency.types false

noncomputable section

namespace Cert.KernelIdeal.Ece

open Cert.KernelIdeal Cert.KernelIdeal.Gen
open Idealize.ShloMosaic Idealize.ShloMosaic.TcCoe Idealize.ShloMosaic.ValueIdx

variable {F : FTy → Type} [FloatOps F] [Named F]
variable (m : (ℓ : Loc nD τ sig) → Buf (Elt F) ℓ)

/-- Row `i` of block `t`, among all the rows. -/
def place (t : Fin 50) (i : Fin 2000) : Fin 100000 := ⟨2000 * t.val + i.val, by omega⟩

/-- Which block of the labels and of the bounds a point is given. -/
theorem fetched : ∀ t : Fin cfg0.N, win0_0.index t = ![t.val, 0] ∧ win0_1.index t = ![0, 0] :=
  (by decide +kernel : ∀ t : Fin grid0.N, win0_0.index t = ![t.val, 0] ∧ win0_1.index t = ![0, 0])

/-- A point's labels are those of its block of rows. -/
theorem labels_apply (c : Dev nD) (t : Fin cfg0.N) (i : Fin 2000) :
    iblk m c 0 t (ix2 i 0) = m ((c : Thread nD τ).loc main_arg1) (ix1 (place (t.cast N_0) i)) := by
  have h : iblk m c 0 t (ix2 i 0) = V m c main_v0 (ix2 (place (t.cast N_0) i) 0) := by
    blk_ext [iblk, (fetched t).1]
    show t.val * 2000 + i.val = 2000 * t.val + i.val
    omega
  rw [h, V_column]
  exact shapeCast_apply (s := S100000) _ _ _ (ix1 (place (t.cast N_0) i)) (by rw [Shape.rowMajor_val_one, Shape.rowMajor_val_two]; simp)

/-- A point's bounds are the bin bounds. -/
theorem edges_apply (c : Dev nD) (t : Fin cfg0.N) (k : Fin 11) :
    iblk m c 1 t (ix2 0 k) = Cert.ReferenceIdeal.Ece.bounds (F := F) (ix1 k) := by
  have h : iblk m c 1 t (ix2 0 k) = V m c main_v2 (ix2 0 k) := by
    blk_ext [iblk, (fetched t).2]
  rw [h, V_edges]
  exact shapeCast_apply _ _ _ _ (by rw [Shape.rowMajor_val_one, Shape.rowMajor_val_two]; simp)

/-- A block's entry is the logits' entry at the block's row. -/
theorem tile_apply (c : Dev nD) (X : Cont (F := F) c logits) (b : Fin 50) (i : Fin 2000) (j : Fin 1000) :
    tile c X b (ix3 0 i j) = X (ix2 (place b i) j) := by
  unfold tile
  rw [shapeCast_apply _ _ _ (ix2 i j) (by rw [Shape.rowMajor_val_two, Shape.rowMajor_val_three]; simp)]
  refine (View.read_apply _ _).trans (congrArg X ?_)
  exact Shape.idx_ext₂
    (ValueKit.view_emb_slice_whole_unit_val main_arg0 ![2000 * b.val, 0] S2000x1000.size (block_inb b) (ix2 i j) 0)
    ((ValueKit.view_emb_slice_whole_unit_val main_arg0 ![2000 * b.val, 0] S2000x1000.size (block_inb b) (ix2 i j) 1).trans
      (Nat.zero_add _))

end Cert.KernelIdeal.Ece

end
-- ==== Proof.Value.Sums.lean ====
/-
  The kernel's bins after the last grid point: each entry is a sum over all the rows of the logits.
-/
module

public import proofs.«01_k».proof.Proof.Value.Blocks
public import Idealize.ShloMosaic.Lib.Pipeline.ValueKit.Acc

@[expose] public section

set_option maxRecDepth 16384
set_option backward.isDefEq.respectTransparency.types false

noncomputable section

namespace Cert.KernelIdeal.Ece

open Cert.KernelIdeal Cert.KernelIdeal.Gen Cert.Rows
open Idealize.ShloMosaic Idealize.ShloMosaic.TcCoe Idealize.ShloMosaic.ValueIdx
open Cert.ReferenceIdeal.Ece (bounds row)

variable (m : (ℓ : Loc nD τ sig) → Buf (Elt Ideal) ℓ) (c : Dev nD)

/-- What row `r` of the logits adds to row `a` of the bins, at bin `k`. -/
def part (a : Fin 3) (k : Fin 10) (r : Fin 100000) : EReal :=
  share (bounds (F := Ideal) (ix1 k.castSucc)) (bounds (F := Ideal) (ix1 k.succ))
    (row (m ((c : Thread nD τ).loc main_arg0)) r) (m ((c : Thread nD τ).loc main_arg1) (ix1 r)) a

/-- A point's row `i` is a row of the logits. -/
theorem line_tile (X : Cont (F := Ideal) c logits) (b : Fin 50) (i : Fin 2000) : line (tile c X b) i = row X (place b i) :=
  funext fun j => tile_apply c X b i j

/-- A point adds the parts of its block's rows. -/
theorem point_apply (t : Fin cfg0.N) (b : FVec Ideal S3x10 .f32) (a : Fin 3) (k : Fin 10) :
    step (F := Ideal) (iblk m c 0 t) (iblk m c 1 t) (tile c (V m c main_arg0) (Ring.bk 50 t.val)) b (ix2 a k)
      = b (ix2 a k) + ∑ i, part m c a k (place (Ring.bk 50 t.val) i) := by
  rw [step_apply]
  refine congrArg (b (ix2 a k) + ·) (Finset.sum_congr rfl fun i _ => ?_)
  have ht : t.cast N_0 = Ring.bk 50 t.val := Fin.ext (Ring.bk_val (t.cast N_0).isLt).symm
  rw [labels_apply, line_tile, V_main_arg0, ht]
  unfold lower upper
  rw [edges_apply, edges_apply]
  rfl

/-- The bins after point `n`: the parts of the rows of the blocks so far. -/
theorem bins_apply (a : Fin 3) (k : Fin 10) : ∀ (n : ℕ) (h : n < cfg0.N),
    bins m c n h (ix2 a k) = ∑ t ∈ Finset.range (n + 1), ∑ i, part m c a k (place (Ring.bk 50 t) i)
  | 0, h => by
    refine (point_apply m c ⟨0, h⟩ k0_pay3 a k).trans ?_
    rw [clear_apply, zero_add, Finset.sum_range_one]
  | n + 1, h => by
    refine (point_apply m c ⟨n + 1, h⟩ (bins m c n (Nat.lt_of_succ_lt h)) a k).trans ?_
    rw [bins_apply a k n, Finset.sum_range_succ _ (n + 1)]

/-- The bins after the last point: the parts of all the rows. -/
theorem bins_last (h : 49 < cfg0.N) (a : Fin 3) (k : Fin 10) : bins m c 49 h (ix2 a k) = ∑ r, part m c a k r := by
  rw [bins_apply, Finset.sum_range]
  refine Fin.sum_mul_add_congr (S := 50) (n := 2000) fun t i hl => ?_
  exact congrArg (part m c a k) (Fin.ext (by
    show 2000 * (Ring.bk 50 t.val).val + i.val = t.val * 2000 + i.val
    rw [Ring.bk_val t.isLt]; omega))

end Cert.KernelIdeal.Ece

end
-- ==== Proof.Value.Edges.lean ====
/-
  The lower bounds of the ten bins are not negative, over the extended reals.
-/
module

public import proofs.«01_k».proof.Proof.Value.Plain

@[expose] public section

set_option maxRecDepth 16384
set_option backward.isDefEq.respectTransparency.types false

noncomputable section

namespace Cert.ReferenceIdeal.Ece

open Cert.ReferenceIdeal Cert.ReferenceIdeal.Gen Cert.Rows
open Idealize.ShloMosaic Idealize.ShloMosaic.ValueIdx

/-- The constant ten is positive. -/
theorem ten_pos : (0 : EReal) < Ideal.ofBits .f32 0x41200000#32 := by
  have h : Ideal.ofBits .f32 0x41200000#32 = ((10 : ℝ) : EReal) := by
    simp [Ideal.ofBits, Ideal.ieee, -EReal.coe_mul]
    norm_num
  rw [h]; exact_mod_cast (by norm_num : (0 : ℝ) < 10)

/-- A quotient of a number that is not negative by a positive one is not negative. -/
theorem div_nonneg' {x y : EReal} (hx : 0 ≤ x) (hy : 0 < y) : 0 ≤ Ideal.div x y := by
  unfold Ideal.div
  rw [if_neg hy.ne']
  exact EReal.mul_nonneg hx (EReal.inv_nonneg_of_nonneg hy.le)

/-- A tenth is not negative. -/
theorem tenths_nonneg (k : Fin 10) : (0 : EReal) ≤ tenths (F := Ideal) (ix1 k) := by
  unfold tenths
  rw [hostDivf_apply]
  refine div_nonneg' ?_ ten_pos
  show (0 : EReal) ≤ (((BitVec.ofNat 32 k.val).toInt : ℝ) : EReal)
  have : (0 : ℤ) ≤ (BitVec.ofNat 32 k.val).toInt := by revert k; decide
  exact_mod_cast this

/-- One number spread over ten places is that number at each. -/
theorem same_apply (w : BitVec 32) (k : Fin 10) :
    broadcastInDim S10 ![0] bcast_S1_S10_0 (shapeCast S1 (constant (F := Ideal) S_ .f32 w) shapeCasts_S_S1) (ix1 k) = Ideal.ofBits .f32 w := rfl

/-- A bin's lower bound is not negative. -/
theorem bounds_nonneg (k : Fin 10) : (0 : EReal) ≤ bounds (F := Ideal) (ix1 k.castSucc) := by
  unfold bounds
  refine le_of_le_of_eq (b := (0 : EReal) * (1 - tenths (F := Ideal) (ix1 k)) + 1 * tenths (F := Ideal) (ix1 k)) ?_
    ((concatenate_pair_apply_left (s₁ := S10) (s₂ := S1) 0 _ _ concatenates_S10_S1_S11_d0 (ix1 k.castSucc) rfl (ix1 k) fun b => ?_).trans ?_).symm
  · rw [zero_mul, zero_add, one_mul]; exact tenths_nonneg k
  · obtain rfl : b = 0 := Subsingleton.elim _ _
    rfl
  · rw [addf_at, mulf_at, mulf_at, subf_at]
    rw [same_apply, same_apply, Ideal.ofBits_zero_f32, Ideal.ofBits_one_f32,
      show broadcastInDim S10 ![] bcast_S_S10 (constant (F := Ideal) S_ .f32 0x3F800000#32) (ix1 k) = (1 : EReal) from Ideal.ofBits_one_f32]

end Cert.ReferenceIdeal.Ece

end
-- ==== Proof.Value.Pre.lean ====
/-
  The precondition, row by row: a column of a row's largest logit that is the row's label is the first such column.
-/
module

public import proofs.«01_k».proof.Proof.Value.Plain
public import Idealize.ShloMosaic.Lib.ReduceAll

@[expose] public section

set_option maxRecDepth 16384
set_option backward.isDefEq.respectTransparency.types false

noncomputable section

namespace Cert.Pre_label_first

open Cert.Pre_label_first Cert.Rows
open Idealize.ShloMosaic Idealize.ShloMosaic.ValueIdx
open Cert.ReferenceIdeal.Ece (row rowMax rowMax_apply)

/-- The predicate's side conditions hold. -/
theorem sideConditions : Facts where
  reducesTo_S100000x1000_S100000_d1 := by decide
  h_S_ := by decide
  bcast_S100000_S100000x1_0 := by decide
  bcast_S100000x1_S100000x1000_0_1 := by decide
  reducesTo_S100000x1000_S_d0_1 := by decide

attribute [local instance] sideConditions

/-- A number per row at every place of its row. -/
def wide {α : Type} (v : S100000.Idx → α) : S100000x1000.Idx → α :=
  broadcastInDim S100000x1000 ![0, 1] Facts.bcast_S100000x1_S100000x1000_0_1 (broadcastInDim S100000x1 ![0] Facts.bcast_S100000_S100000x1_0 v)

/-- It is the row's number. -/
theorem wide_apply {α : Type} (v : S100000.Idx → α) (r : Fin 100000) (j : Fin 1000) : wide v (ix2 r j) = v (ix1 r) := by
  unfold wide
  rw [broadcastInDim_apply _ _ _ (ix2 r j) (ix2 r 0) (by intro a; fin_cases a <;> rfl),
    broadcastInDim_apply _ _ _ (ix2 r 0) (ix1 r) (by intro a; fin_cases a; rfl)]

/-- What the predicate asks of each entry. -/
def entry (X : FVec Ideal S100000x1000 .f32) (L : IVec S100000 32) : IVec S100000x1000 1 :=
  ori (ori (cmpf .olt X (wide (rowMax (F := Ideal) X))) (cmpi .ne (iotaInDim S100000x1000 32 1) (wide L)))
    (cmpi .eq (iotaInDim S100000x1000 32 1) (wide (fn_argmax (F := Ideal) X)))

/-- The operations of the predicate at an index. -/
theorem or_at {s : Shape} {w : ℕ} (a b : IVec s w) (i : s.Idx) : ori a b i = a i ||| b i := rfl
@[inherit_doc or_at] theorem ne_at {s : Shape} {w : ℕ} (a b : IVec s w) (i : s.Idx) : cmpi .ne a b i = BitVec.ofBool (a i != b i) := rfl
@[inherit_doc or_at] theorem eq_at {s : Shape} {w : ℕ} (a b : IVec s w) (i : s.Idx) : cmpi .eq a b i = BitVec.ofBool (a i == b i) := rfl
@[inherit_doc or_at] theorem less_at {s : Shape} {φ : FTy} (a b : FVec Ideal s φ) (i : s.Idx) : cmpf .olt a b i = BitVec.ofBool (decide ((a i : EReal) < b i)) := rfl
@[inherit_doc or_at] theorem iota_at (i : S100000x1000.Idx) : iotaInDim S100000x1000 32 1 i = BitVec.ofNat 32 (i 1).val := rfl

/-- What is asked of an entry, in words of its row. -/
theorem entry_apply (X : FVec Ideal S100000x1000 .f32) (L : IVec S100000 32) (r : Fin 100000) (j : Fin 1000) :
    entry X L (ix2 r j) = BitVec.ofBool (decide (row X r j < Finset.univ.sup (row X r))) ||| BitVec.ofBool (BitVec.ofNat 32 j.val != L (ix1 r))
      ||| BitVec.ofBool (BitVec.ofNat 32 j.val == fn_argmax (F := Ideal) X (ix1 r)) := by
  unfold entry
  rw [or_at, or_at, less_at, ne_at, eq_at, iota_at, wide_apply, wide_apply, wide_apply, rowMax_apply]

/-- The predicate asks it of every entry. -/
theorem fn_eq (X : FVec Ideal S100000x1000 .f32) (L : IVec S100000 32) :
    fn (F := Ideal) X L = Host.reduce IntOp.andi (entry X L) (constantI S_ 1 1#1) Facts.reducesTo_S100000x1000_S_d0_1 Facts.h_S_ := rfl

/-- The predicate's arg-max, unfolded. -/
theorem argmax_eq (X : FVec Ideal S100000x1000 .f32) : fn_argmax (F := Ideal) X
    = fun j => (Host.argReduce (reducer_argmax_f32_i32 (F := Ideal)) X (iotaInDim S100000x1000 32 1) (constant S_ .f32 0xFF800000#32)
        (constantI S_ 32 0#32) Facts.reducesTo_S100000x1000_S100000_d1 Facts.h_S_ j).2 := rfl

/-- The predicate's arg-max of a row is the row's first largest entry. -/
theorem argmax_apply (X : FVec Ideal S100000x1000 .f32) (r : Fin 100000) (p : Fin 1000) (hp : First (row X r) p) (hb : X (ix2 r p) ≠ ⊥) :
    fn_argmax (F := Ideal) X (ix1 r) = BitVec.ofNat 32 p.val :=
  (congrFun (argmax_eq X) (ix1 r)).trans (argmax_row _ _ _ pre_reducer_eq X r p hp hb)

/-- What the precondition says of an entry. -/
theorem entry_of (X : FVec Ideal S100000x1000 .f32) (L : IVec S100000 32) (h : fn (F := Ideal) X L = fun _ => 1#1) (r : Fin 100000) (j : Fin 1000) :
    row X r j < Finset.univ.sup (row X r) ∨ BitVec.ofNat 32 j.val ≠ L (ix1 r) ∨ BitVec.ofNat 32 j.val = fn_argmax (F := Ideal) X (ix1 r) := by
  have : Subsingleton S_.Idx := ⟨fun a b => funext fun i => i.elim0⟩
  have e : Host.reduce IntOp.andi (entry X L) (constantI S_ 1 1#1) Facts.reducesTo_S100000x1000_S_d0_1 Facts.h_S_ ix0 = 1#1 :=
    (congrFun (fn_eq X L) ix0).symm.trans (congrFun h ix0)
  have e' := Host.reduce_andi_all (entry X L) _ _ _ ix0 e (ix2 r j)
  rw [entry_apply, bit_or, bit_or] at e'
  have e'' := (bit_ne_zero _).mp e'
  simp only [Bool.or_eq_true, decide_eq_true_eq, bne_iff_ne, beq_iff_eq] at e''
  rcases e'' with (h | h) | h
  · exact Or.inl h
  · exact Or.inr (Or.inl h)
  · exact Or.inr (Or.inr h)

end Cert.Pre_label_first

end
-- ==== Proof.Value.Equal.lean ====
/-
  Under the precondition the kernel's result is the reference's: row by row the two add the same to every bin.
-/
module

public import proofs.«01_k».proof.Proof.Value.Sums
public import proofs.«01_k».proof.Proof.Value.Edges
public import proofs.«01_k».proof.Proof.Value.Pre

@[expose] public section

set_option maxRecDepth 16384
set_option backward.isDefEq.respectTransparency.types false

noncomputable section

namespace Cert.KernelIdeal.Ece

open Cert.KernelIdeal Cert.KernelIdeal.Gen Cert.Rows
open Idealize.ShloMosaic Idealize.ShloMosaic.TcCoe Idealize.ShloMosaic.ValueIdx
open Cert.ReferenceIdeal.Ece (bounds row picked picked_apply soft_apply bounds_nonneg summed summed_value rowMax right)

attribute [local instance] Cert.Pre_label_first.sideConditions

/-- Equivalent verdicts count the same. -/
theorem flag_congr {p q : Prop} [Decidable p] [Decidable q] (h : p ↔ q) : flag p = flag q := by
  unfold flag; simp only [h]

/-- A confidence that is not positive lies in no bin with a lower bound that is not negative. -/
theorem gate_none {lo hi c : EReal} (hlo : 0 ≤ lo) (hc : c ≤ 0) : gate lo hi c = 0 :=
  if_neg fun h => absurd (hlo.trans_lt h.1) hc.not_gt

/-- On a row of logits `X` that meets the precondition, the kernel and the reference agree on the confidence and the verdict, or
    neither finds a positive confidence. -/
theorem agree (X : FVec Ideal S100000x1000 .f32) (L : IVec S100000 32) (h : Cert.Pre_label_first.fn (F := Ideal) X L = fun _ => 1#1) (r : Fin 100000) :
    (kernelConf (row X r) = softConf (row X r)
      ∧ (KernelHit (row X r) (L (ix1 r)) ↔ picked (F := Ideal) (Cert.ReferenceIdeal.Ece.soft X) (ix1 r) = L (ix1 r)))
    ∨ (kernelConf (row X r) ≤ 0 ∧ softConf (row X r) ≤ 0) := by
  have hs : row (Cert.ReferenceIdeal.Ece.soft (F := Ideal) X) r = Rows.soft (row X r) := funext fun j => soft_apply X r j
  refine row_agree (by decide) (fun p hp hb => Cert.Pre_label_first.argmax_apply X r p hp hb)
    (fun p hp hb => picked_apply _ r p (hs ▸ hp) ?_) (Cert.Pre_label_first.entry_of X L h r)
  rw [soft_apply]; exact hb

open Classical in
/-- So a row's parts are what the reference adds for it. -/
theorem part_eq (m : (ℓ : Loc nD τ sig) → Buf (Elt Ideal) ℓ) (c : Dev nD) (X : FVec Ideal S100000x1000 .f32) (L : IVec S100000 32)
    (hX : m ((c : Thread nD τ).loc main_arg0) = X) (hL : m ((c : Thread nD τ).loc main_arg1) = L)
    (h : Cert.Pre_label_first.fn (F := Ideal) X L = fun _ => 1#1) (k : Fin 10) (r : Fin 100000) (lo hi : EReal)
    [Decidable (picked (F := Ideal) (Cert.ReferenceIdeal.Ece.soft X) (ix1 r) = L (ix1 r))]
    (hlo : bounds (F := Ideal) (ix1 k.castSucc) = lo) (hhi : bounds (F := Ideal) (ix1 k.succ) = hi) :
    part m c 0 k r = gate lo hi (softConf (row X r))
    ∧ part m c 1 k r = flag (picked (F := Ideal) (Cert.ReferenceIdeal.Ece.soft X) (ix1 r) = L (ix1 r)) * gate lo hi (softConf (row X r))
    ∧ part m c 2 k r = softConf (row X r) * gate lo hi (softConf (row X r)) := by
  have h0 : 0 ≤ lo := hlo ▸ bounds_nonneg k
  unfold part
  rw [hX, hL, hlo, hhi]
  unfold share
  show gate lo hi (kernelConf (row X r)) = _ ∧ flag (KernelHit (row X r) (L (ix1 r))) * gate lo hi (kernelConf (row X r)) = _
    ∧ kernelConf (row X r) * gate lo hi (kernelConf (row X r)) = _
  rcases agree X L h r with ⟨hc, hv⟩ | ⟨hk, hsm⟩
  · rw [hc, flag_congr hv]
    exact ⟨rfl, rfl, rfl⟩
  · rw [gate_none h0 hk, gate_none h0 hsm]
    simp only [mul_zero, and_self]

/-- The kernel's result is the reference's. -/
theorem equal (m : (ℓ : Loc nD τ sig) → Buf (Elt Ideal) ℓ) (c : Dev nD) (X : FVec Ideal S100000x1000 .f32) (L : IVec S100000 32)
    (hX : m ((c : Thread nD τ).loc main_arg0) = X) (hL : m ((c : Thread nD τ).loc main_arg1) = L)
    (h : Cert.Pre_label_first.fn (F := Ideal) X L = fun _ => 1#1) (hn : 49 < cfg0.N) (i : S1x1.Idx) (j : S1.Idx) :
    result (F := Ideal) (bins m c 49 hn) i
      = summed (F := Ideal) (rowMax (Cert.ReferenceIdeal.Ece.soft X)) (right X L) bounds 10 le_rfl j := by
  rw [result_apply, summed_value]
  refine Finset.sum_congr rfl fun k _ => binError_congr ?_ ?_ ?_
  all_goals
    rw [bins_last]
    refine Finset.sum_congr rfl fun r _ => ?_
    have e := part_eq m c X L hX hL h k r _ _ rfl rfl
  · exact e.1
  · exact e.2.1
  · exact e.2.2

end Cert.KernelIdeal.Ece

end
-- ==== Proof.Value.Launch.lean ====
/-
  The kernel's run: its result buffer ends at the result of the bins after the last grid point.
-/
module

public import proofs.«01_k».proof.Proof.Value.Host
public import Idealize.ShloMosaic.Lib.Pipeline.ValueKit.Geometry

@[expose] public section

set_option maxRecDepth 16384

noncomputable section

namespace Cert.KernelIdeal.Ece

open Cert.Host Cert.KernelIdeal Cert.KernelIdeal.Gen
open Idealize.ShloMosaic Idealize.ShloMosaic.TcCoe Idealize.SL.Sem Idealize.ShloMosaic.StableHlo

variable {F : FTy → Type} [FloatOps F] [Named F]
variable (m : (ℓ : Loc nD τ sig) → Buf (Elt F) ℓ) (ρ : Dev nD → PrngReg)

/-- The last grid point. -/
theorem final_lt : 49 < cfg0.N := (by rw [N_0]; decide : 49 < grid0.N)
@[inherit_doc final_lt] def final : Fin cfg0.N := ⟨49, final_lt⟩

/-- Only the last point writes the result's array back, and all of it. -/
theorem written_once : (cfg0.win 3).WholeAt final :=
  (by decide +kernel : win0_3.WholeAt final)

/-- The result's array after the grid. -/
theorem array_result (c : Dev nD) : (dats m 0 c).arrAt 3 cfg0.N = result (bins m c 49 final_lt) := by
  refine (dats m 0 c).arrAt_eq_of_after_last 3 final written_once _ fun j => ?_
  rw [after_result]
  rfl

/-- The buffer of the result's array and the result's buffer. -/
abbrev cellOut : TRef sig ⟨S1x1, .f32⟩ := .of main_v3_1
@[inherit_doc cellOut] abbrev outcome : TRef sig ⟨S1, .f32⟩ := .of main_v4

/-- The host operation after the grid. -/
theorem back_eq : (List.flatten [hostOps1] : List (HloOp τ sig (Elt F))) = [op1 cellOut outcome (shapeCast S1 · shapeCasts_S1x1_S1)] := rfl

/-- It leaves the result's array, reshaped. -/
theorem outcome_after (V : Valuation τ sig (Elt F)) : reads (after (List.flatten [hostOps1 (F := F)]) V) outcome = shapeCast S1 (reads V cellOut) shapeCasts_S1x1_S1 := by
  rw [back_eq, after_cons, after_nil, reads_op1]

/-- What the launch leaves in the result's buffer. -/
theorem tail_result (c : Dev nD) : Pipeline.afterTail₀ cfgs (dats m) 0 (V0 m) [hostOps1] c main_v4
    = shapeCast S1 (result (bins m c 49 final_lt)) shapeCasts_S1x1_S1 := by
  unfold Pipeline.afterTail₀
  refine (outcome_after (F := F) _).trans (congrArg (shapeCast S1 · shapeCasts_S1x1_S1) ?_)
  refine Eq.trans ?_ (array_result m c)
  exact Pipeline.withArrays_arr (cfgs 0).spec (by decide) c (V0 m c) (fun w => (dats m 0 c).arrAt w (cfgs 0).N) 3

/-- The kernel's run: the result's buffer holds the result of the final bins, and the arguments end as they were. -/
theorem run_value : θ_run defs (onTc (τ := τ) (main (F := F))) ⟨m, fun _ => 0, ρ⟩ (fun r => ∀ c : Dev nD,
      r.2.mem ((c.tc : Thread nD τ).loc main_v4) = shapeCast S1 (result (bins m c 49 final_lt)) shapeCasts_S1x1_S1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.2.1 c).2 main_v4 (Pipeline.mem_restRefs_of main_v4 (by decide) (by decide))).trans (tail_result m c), h.1 c⟩)
    (θ_run_and (unchanged m ρ) (run_all m ρ))

end Cert.KernelIdeal.Ece

end
-- ==== Proof.lean ====
/-
  The proof of the claims: the frames of the kernel at the bit formats and of the ideal kernel and the plain formula at
  the extended reals, the named constant, and the equality of the ideal kernel's result with the plain formula's.
-/
module

public import proofs.«01_k».proof.Defs
public import proofs.«01_k».proof.Proof.Bits
public import proofs.«01_k».proof.Proof.Value.Equal
public import proofs.«01_k».proof.Proof.Value.Launch
public import Idealize.ShloMosaic.Lib.Quiescent

@[expose] public section

noncomputable section

namespace Cert.Proof

open Idealize.ShloMosaic Idealize.SL.Sem

/-- The plain formula's run leaves its arguments as they were; it has no semaphores. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Ece.run_value m g)

/-- The same where the precondition holds. -/
theorem frame_reference_pre : Cert.quiescent_ReferenceIdeal_pre_label_first (hReferenceIdeal := Cert.ReferenceIdeal.Gen.facts)
    (hPre_label_first := Cert.Pre_label_first.sideConditions) := fun m g _ => frame_reference m g trivial

/-- The constant's word is the float32 nearest to the number that it is named as. -/
theorem preserves : Cert.preserves_Kernel_KernelIdeal :=
  IdealRules.named_const.statement Cert.KernelIdeal.κ "two_log2_e" .f32 0x4038AA3B#32 ((2 * (Real.log 2)⁻¹ : ℝ) : EReal) rfl

/-- Under the precondition the ideal kernel's result is the plain formula's. -/
theorem algebraic : Cert.algebraic_KernelIdeal_ReferenceIdeal_pre_label_first (hKernelIdeal := Cert.KernelIdeal.Gen.facts)
    (hReferenceIdeal := Cert.ReferenceIdeal.Gen.facts) (hPre_label_first := Cert.Pre_label_first.sideConditions) := by
  intro m g m' g' hpre hargs
  refine ⟨_, Cert.KernelIdeal.Ece.run_value (F := Ideal) m g, ?_⟩
  refine (θ_run Cert.ReferenceIdeal.defs _ _).mono (fun r h c => ⟨(h c).1.trans ?_, (h c).2⟩) (Cert.ReferenceIdeal.Ece.run_value (F := Ideal) m' g')
  funext j
  rw [(hargs c).1, (hargs c).2]
  exact (Cert.KernelIdeal.Ece.equal m c _ _ rfl rfl (hpre c) Cert.KernelIdeal.Ece.final_lt _ j).symm

/-- All claims. -/
theorem claim : Cert.Claim :=
  ⟨Cert.Kernel.Gen.facts, Cert.KernelIdeal.Gen.facts, Cert.ReferenceIdeal.Gen.facts, Cert.Pre_label_first.sideConditions,
    fun m g _ => Cert.Kernel.Ece.frame m g, fun m g _ => Cert.KernelIdeal.Ece.frame m g, fun m g _ => Cert.KernelIdeal.Ece.frame m g,
    frame_reference, frame_reference_pre, preserves, algebraic⟩

end Cert.Proof

end
